-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![65536, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S65536x1024 : Shape := ⟨2, ![65536, 1024]⟩
abbrev S3 : Shape := ⟨1, ![3]⟩
abbrev S_ : Shape := ⟨0, ![]⟩
abbrev S3x7 : Shape := ⟨2, ![3, 7]⟩
abbrev S1 : Shape := ⟨1, ![1]⟩
abbrev S2720x1024 : Shape := ⟨2, ![2720, 1024]⟩
abbrev S2752x1024 : Shape := ⟨2, ![2752, 1024]⟩
abbrev S1x1 : Shape := ⟨2, ![1, 1]⟩

abbrev nBuf : Space → Nat
  | .hbm => 2
  | .vmem => 2
  | .smem => 0
  | _ => 0

abbrev bufTy : (tb : Table) → Fin (tcTables nBuf tb) → BufTy
  | .hbm, ⟨0, _⟩ => ⟨S8192x1024, .f32⟩
  | .hbm, ⟨1, _⟩ => ⟨S65536x1024, .bf16⟩
  | .local _ .vmem, ⟨0, _⟩ => ⟨S8192x1024, .f32⟩
  | .local _ .vmem, ⟨1, _⟩ => ⟨S8192x1024, .bf16⟩
  | _, _ => ⟨S8192x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 1 46 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v9 : BitVec 1 := Scalar.cmpi .sgt v2 c0_i32
  let v10 : BitVec 32 := Scalar.extui v9
  let c0_i32_4 : BitVec 32 := 0#32
  let v11 : BitVec 1 := Scalar.cmpi .slt v2 c0_i32_4
  let v12 : BitVec 32 := Scalar.extui v11
  let v13 : BitVec 32 := Scalar.subi v10 v12
  let c4_i32_3 : BitVec 32 := 4#32
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v2 c4_i32_3
  let c0_i32_7 : BitVec 32 := 0#32
  let v21 : BitVec 1 := Scalar.cmpi .ne v20 c0_i32_7
  let v22 : BitVec 1 := Scalar.andi v19 v21
  let v8 : BitVec 32 := Scalar.divsi v2 c4_i32_3
  let c1_i32_8 : BitVec 32 := 1#32
  let v23 : BitVec 32 := Scalar.subi v8 c1_i32_8
  let v24 : BitVec 32 := Scalar.select v22 v23 v8
  let c0_i32_11 : BitVec 32 := 0#32
  let v28 : BitVec 32 := Scalar.xori v24 c0_i32_11
  let c4_i32_13 : BitVec 32 := 4#32
  let v31 : BitVec 32 := Scalar.muli v28 c4_i32_13
  let c4_i32 : BitVec 32 := 4#32
  let v3 : BitVec 32 := Scalar.remsi v2 c4_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c1_i32_9 : BitVec 32 := 1#32
  let v26 : BitVec 32 := Scalar.xori v6 c1_i32_9
  let c1_i32_2 : BitVec 32 := 1#32
  let v7 : BitVec 32 := Scalar.shrsi v5 c1_i32_2
  let c0_i32_10 : BitVec 32 := 0#32
  let v27 : BitVec 32 := Scalar.xori v7 c0_i32_10
  let c1_i32_12 : BitVec 32 := 1#32
  let v29 : BitVec 32 := Scalar.shli v27 c1_i32_12
  let v30 : BitVec 32 := Scalar.ori v26 v29
  let c1_i32_14 : BitVec 32 := 1#32
  let v32 : BitVec 32 := Scalar.shrsi v30 c1_i32_14
  let v33 : BitVec 32 := Scalar.xori v30 v32
  let v34 : BitVec 32 := Scalar.addi v31 v33
  let c1_i32_16 : BitVec 32 := 1#32
  let v35 : BitVec 32 := Scalar.muli v34 c1_i32_16
  let v36 : BitVec 32 := Scalar.addi c0_i32_17 v35
  v36.toNat
def k0_dev2 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v9 : BitVec 1 := Scalar.cmpi .sgt v2 c0_i32
  let v10 : BitVec 32 := Scalar.extui v9
  let c0_i32_4 : BitVec 32 := 0#32
  let v11 : BitVec 1 := Scalar.cmpi .slt v2 c0_i32_4
  let v12 : BitVec 32 := Scalar.extui v11
  let v13 : BitVec 32 := Scalar.subi v10 v12
  let c4_i32_3 : BitVec 32 := 4#32
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v2 c4_i32_3
  let c0_i32_7 : BitVec 32 := 0#32
  let v21 : BitVec 1 := Scalar.cmpi .ne v20 c0_i32_7
  let v22 : BitVec 1 := Scalar.andi v19 v21
  let v8 : BitVec 32 := Scalar.divsi v2 c4_i32_3
  let c1_i32_8 : BitVec 32 := 1#32
  let v23 : BitVec 32 := Scalar.subi v8 c1_i32_8
  let v24 : BitVec 32 := Scalar.select v22 v23 v8
  let c0_i32_20 : BitVec 32 := 0#32
  let v39 : BitVec 32 := Scalar.xori v24 c0_i32_20
  let c4_i32_22 : BitVec 32 := 4#32
  let v42 : BitVec 32 := Scalar.muli v39 c4_i32_22
  let c4_i32 : BitVec 32 := 4#32
  let v3 : BitVec 32 := Scalar.remsi v2 c4_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c0_i32_18 : BitVec 32 := 0#32
  let v37 : BitVec 32 := Scalar.xori v6 c0_i32_18
  let c1_i32_2 : BitVec 32 := 1#32
  let v7 : BitVec 32 := Scalar.shrsi v5 c1_i32_2
  let c1_i32_19 : BitVec 32 := 1#32
  let v38 : BitVec 32 := Scalar.xori v7 c1_i32_19
  let c1_i32_21 : BitVec 32 := 1#32
  let v40 : BitVec 32 := Scalar.shli v38 c1_i32_21
  let v41 : BitVec 32 := Scalar.ori v37 v40
  let c1_i32_23 : BitVec 32 := 1#32
  let v43 : BitVec 32 := Scalar.shrsi v41 c1_i32_23
  let v44 : BitVec 32 := Scalar.xori v41 v43
  let v45 : BitVec 32 := Scalar.addi v42 v44
  let c1_i32_25 : BitVec 32 := 1#32
  let v46 : BitVec 32 := Scalar.muli v45 c1_i32_25
  let v47 : BitVec 32 := Scalar.addi c0_i32_26 v46
  v47.toNat
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v9 : BitVec 1 := Scalar.cmpi .sgt v2 c0_i32
  let v10 : BitVec 32 := Scalar.extui v9
  let c0_i32_4 : BitVec 32 := 0#32
  let v11 : BitVec 1 := Scalar.cmpi .slt v2 c0_i32_4
  let v12 : BitVec 32 := Scalar.extui v11
  let v13 : BitVec 32 := Scalar.subi v10 v12
  let c4_i32_3 : BitVec 32 := 4#32
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v2 c4_i32_3
  let c0_i32_7 : BitVec 32 := 0#32
  let v21 : BitVec 1 := Scalar.cmpi .ne v20 c0_i32_7
  let v22 : BitVec 1 := Scalar.andi v19 v21
  let v8 : BitVec 32 := Scalar.divsi v2 c4_i32_3
  let c1_i32_8 : BitVec 32 := 1#32
  let v23 : BitVec 32 := Scalar.subi v8 c1_i32_8
  let v24 : BitVec 32 := Scalar.select v22 v23 v8
  let c1_i32_29 : BitVec 32 := 1#32
  let v50 : BitVec 32 := Scalar.xori v24 c1_i32_29
  let c4_i32_31 : BitVec 32 := 4#32
  let v53 : BitVec 32 := Scalar.muli v50 c4_i32_31
  let c4_i32 : BitVec 32 := 4#32
  let v3 : BitVec 32 := Scalar.remsi v2 c4_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c0_i32_27 : BitVec 32 := 0#32
  let v48 : BitVec 32 := Scalar.xori v6 c0_i32_27
  let c1_i32_2 : BitVec 32 := 1#32
  let v7 : BitVec 32 := Scalar.shrsi v5 c1_i32_2
  let c0_i32_28 : BitVec 32 := 0#32
  let v49 : BitVec 32 := Scalar.xori v7 c0_i32_28
  let c1_i32_30 : BitVec 32 := 1#32
  let v51 : BitVec 32 := Scalar.shli v49 c1_i32_30
  let v52 : BitVec 32 := Scalar.ori v48 v51
  let c1_i32_32 : BitVec 32 := 1#32
  let v54 : BitVec 32 := Scalar.shrsi v52 c1_i32_32
  let v55 : BitVec 32 := Scalar.xori v52 v54
  let v56 : BitVec 32 := Scalar.addi v53 v55
  let c1_i32_34 : BitVec 32 := 1#32
  let v57 : BitVec 32 := Scalar.muli v56 c1_i32_34
  let v58 : BitVec 32 := Scalar.addi c0_i32_35 v57
  v58.toNat
def k0_off1 (d0 : Dev nD) (c0_i32_58 : BitVec 32) (c0_i32_56 : BitVec 32) (c0_i32_57 : BitVec 32) (c0_i32_62 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v9 : BitVec 1 := Scalar.cmpi .sgt v2 c0_i32
  let v10 : BitVec 32 := Scalar.extui v9
  let c0_i32_4 : BitVec 32 := 0#32
  let v11 : BitVec 1 := Scalar.cmpi .slt v2 c0_i32_4
  let v12 : BitVec 32 := Scalar.extui v11
  let v13 : BitVec 32 := Scalar.subi v10 v12
  let c4_i32_3 : BitVec 32 := 4#32
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v2 c4_i32_3
  let c0_i32_7 : BitVec 32 := 0#32
  let v21 : BitVec 1 := Scalar.cmpi .ne v20 c0_i32_7
  let v22 : BitVec 1 := Scalar.andi v19 v21
  let v8 : BitVec 32 := Scalar.divsi v2 c4_i32_3
  let c1_i32_8 : BitVec 32 := 1#32
  let v23 : BitVec 32 := Scalar.subi v8 c1_i32_8
  let v24 : BitVec 32 := Scalar.select v22 v23 v8
  let v82 : BitVec 32 := Scalar.xori v24 c0_i32_58
  let c4_i32_60 : BitVec 32 := 4#32
  let v85 : BitVec 32 := Scalar.muli v82 c4_i32_60
  let c4_i32 : BitVec 32 := 4#32
  let v3 : BitVec 32 := Scalar.remsi v2 c4_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let v80 : BitVec 32 := Scalar.xori v6 c0_i32_56
  let c1_i32_2 : BitVec 32 := 1#32
  let v7 : BitVec 32 := Scalar.shrsi v5 c1_i32_2
  let v81 : BitVec 32 := Scalar.xori v7 c0_i32_57
  let c1_i32_59 : BitVec 32 := 1#32
  let v83 : BitVec 32 := Scalar.shli v81 c1_i32_59
  let v84 : BitVec 32 := Scalar.ori v80 v83
  let c1_i32_61 : BitVec 32 := 1#32
  let v86 : BitVec 32 := Scalar.shrsi v84 c1_i32_61
  let v87 : BitVec 32 := Scalar.xori v84 v86
  let v88 : BitVec 32 := Scalar.addi v85 v87
  let c8192_i32 : BitVec 32 := 8192#32
  let v89 : BitVec 32 := Scalar.muli v88 c8192_i32
  let v90 : BitVec 32 := Scalar.addi v89 c0_i32_62
  let c0_i32_75 : BitVec 32 := 0#32
  ![v90.toNat, 0]
def k0_off1_at (r : Fin 8) : BitVec 32 × BitVec 32 × BitVec 32 × BitVec 32 :=
  if r.val < 4 then
    if r.val < 2 then
      if r.val < 1 then
        (0#32, 0#32, 0#32, 0#32)
      else
        (0#32, 0#32, 0#32, 2720#32)
    else
      if r.val < 3 then
        (0#32, 1#32, 0#32, 0#32)
      else
        (0#32, 0#32, 1#32, 2720#32)
  else
    if r.val < 6 then
      if r.val < 5 then
        (0#32, 0#32, 1#32, 0#32)
      else
        (0#32, 1#32, 1#32, 0#32)
    else
      if r.val < 7 then
        (1#32, 0#32, 0#32, 2720#32)
      else
        (1#32, 0#32, 1#32, 2720#32)
def k0_dev4 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v9 : BitVec 1 := Scalar.cmpi .sgt v2 c0_i32
  let v10 : BitVec 32 := Scalar.extui v9
  let c0_i32_4 : BitVec 32 := 0#32
  let v11 : BitVec 1 := Scalar.cmpi .slt v2 c0_i32_4
  let v12 : BitVec 32 := Scalar.extui v11
  let v13 : BitVec 32 := Scalar.subi v10 v12
  let c4_i32_3 : BitVec 32 := 4#32
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v2 c4_i32_3
  let c0_i32_7 : BitVec 32 := 0#32
  let v21 : BitVec 1 := Scalar.cmpi .ne v20 c0_i32_7
  let v22 : BitVec 1 := Scalar.andi v19 v21
  let v8 : BitVec 32 := Scalar.divsi v2 c4_i32_3
  let c1_i32_8 : BitVec 32 := 1#32
  let v23 : BitVec 32 := Scalar.subi v8 c1_i32_8
  let v24 : BitVec 32 := Scalar.select v22 v23 v8
  let c0_i32_65 : BitVec 32 := 0#32
  let v93 : BitVec 32 := Scalar.xori v24 c0_i32_65
  let c4_i32_67 : BitVec 32 := 4#32
  let v96 : BitVec 32 := Scalar.muli v93 c4_i32_67
  let c4_i32 : BitVec 32 := 4#32
  let v3 : BitVec 32 := Scalar.remsi v2 c4_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c1_i32_63 : BitVec 32 := 1#32
  let v91 : BitVec 32 := Scalar.xori v6 c1_i32_63
  let c1_i32_2 : BitVec 32 := 1#32
  let v7 : BitVec 32 := Scalar.shrsi v5 c1_i32_2
  let c0_i32_64 : BitVec 32 := 0#32
  let v92 : BitVec 32 := Scalar.xori v7 c0_i32_64
  let c1_i32_66 : BitVec 32 := 1#32
  let v94 : BitVec 32 := Scalar.shli v92 c1_i32_66
  let v95 : BitVec 32 := Scalar.ori v91 v94
  let c1_i32_68 : BitVec 32 := 1#32
  let v97 : BitVec 32 := Scalar.shrsi v95 c1_i32_68
  let v98 : BitVec 32 := Scalar.xori v95 v97
  let v99 : BitVec 32 := Scalar.addi v96 v98
  let c1_i32_73 : BitVec 32 := 1#32
  let v100 : BitVec 32 := Scalar.muli v99 c1_i32_73
  let v101 : BitVec 32 := Scalar.addi c0_i32_74 v100
  v101.toNat
def k0_dev5 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v9 : BitVec 1 := Scalar.cmpi .sgt v2 c0_i32
  let v10 : BitVec 32 := Scalar.extui v9
  let c0_i32_4 : BitVec 32 := 0#32
  let v11 : BitVec 1 := Scalar.cmpi .slt v2 c0_i32_4
  let v12 : BitVec 32 := Scalar.extui v11
  let v13 : BitVec 32 := Scalar.subi v10 v12
  let c4_i32_3 : BitVec 32 := 4#32
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v2 c4_i32_3
  let c0_i32_7 : BitVec 32 := 0#32
  let v21 : BitVec 1 := Scalar.cmpi .ne v20 c0_i32_7
  let v22 : BitVec 1 := Scalar.andi v19 v21
  let v8 : BitVec 32 := Scalar.divsi v2 c4_i32_3
  let c1_i32_8 : BitVec 32 := 1#32
  let v23 : BitVec 32 := Scalar.subi v8 c1_i32_8
  let v24 : BitVec 32 := Scalar.select v22 v23 v8
  let c0_i32_88 : BitVec 32 := 0#32
  let v121 : BitVec 32 := Scalar.xori v24 c0_i32_88
  let c4_i32_90 : BitVec 32 := 4#32
  let v124 : BitVec 32 := Scalar.muli v121 c4_i32_90
  let c4_i32 : BitVec 32 := 4#32
  let v3 : BitVec 32 := Scalar.remsi v2 c4_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c0_i32_86 : BitVec 32 := 0#32
  let v119 : BitVec 32 := Scalar.xori v6 c0_i32_86
  let c1_i32_2 : BitVec 32 := 1#32
  let v7 : BitVec 32 := Scalar.shrsi v5 c1_i32_2
  let c1_i32_87 : BitVec 32 := 1#32
  let v120 : BitVec 32 := Scalar.xori v7 c1_i32_87
  let c1_i32_89 : BitVec 32 := 1#32
  let v122 : BitVec 32 := Scalar.shli v120 c1_i32_89
  let v123 : BitVec 32 := Scalar.ori v119 v122
  let c1_i32_91 : BitVec 32 := 1#32
  let v125 : BitVec 32 := Scalar.shrsi v123 c1_i32_91
  let v126 : BitVec 32 := Scalar.xori v123 v125
  let v127 : BitVec 32 := Scalar.addi v124 v126
  let c1_i32_96 : BitVec 32 := 1#32
  let v128 : BitVec 32 := Scalar.muli v127 c1_i32_96
  let v129 : BitVec 32 := Scalar.addi c0_i32_97 v128
  v129.toNat
def k0_dev6 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v9 : BitVec 1 := Scalar.cmpi .sgt v2 c0_i32
  let v10 : BitVec 32 := Scalar.extui v9
  let c0_i32_4 : BitVec 32 := 0#32
  let v11 : BitVec 1 := Scalar.cmpi .slt v2 c0_i32_4
  let v12 : BitVec 32 := Scalar.extui v11
  let v13 : BitVec 32 := Scalar.subi v10 v12
  let c4_i32_3 : BitVec 32 := 4#32
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v2 c4_i32_3
  let c0_i32_7 : BitVec 32 := 0#32
  let v21 : BitVec 1 := Scalar.cmpi .ne v20 c0_i32_7
  let v22 : BitVec 1 := Scalar.andi v19 v21
  let v8 : BitVec 32 := Scalar.divsi v2 c4_i32_3
  let c1_i32_8 : BitVec 32 := 1#32
  let v23 : BitVec 32 := Scalar.subi v8 c1_i32_8
  let v24 : BitVec 32 := Scalar.select v22 v23 v8
  let c1_i32_111 : BitVec 32 := 1#32
  let v149 : BitVec 32 := Scalar.xori v24 c1_i32_111
  let c4_i32_113 : BitVec 32 := 4#32
  let v152 : BitVec 32 := Scalar.muli v149 c4_i32_113
  let c4_i32 : BitVec 32 := 4#32
  let v3 : BitVec 32 := Scalar.remsi v2 c4_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c0_i32_109 : BitVec 32 := 0#32
  let v147 : BitVec 32 := Scalar.xori v6 c0_i32_109
  let c1_i32_2 : BitVec 32 := 1#32
  let v7 : BitVec 32 := Scalar.shrsi v5 c1_i32_2
  let c0_i32_110 : BitVec 32 := 0#32
  let v148 : BitVec 32 := Scalar.xori v7 c0_i32_110
  let c1_i32_112 : BitVec 32 := 1#32
  let v150 : BitVec 32 := Scalar.shli v148 c1_i32_112
  let v151 : BitVec 32 := Scalar.ori v147 v150
  let c1_i32_114 : BitVec 32 := 1#32
  let v153 : BitVec 32 := Scalar.shrsi v151 c1_i32_114
  let v154 : BitVec 32 := Scalar.xori v151 v153
  let v155 : BitVec 32 := Scalar.addi v152 v154
  let c1_i32_119 : BitVec 32 := 1#32
  let v156 : BitVec 32 := Scalar.muli v155 c1_i32_119
  let v157 : BitVec 32 := Scalar.addi c0_i32_120 v156
  v157.toNat
def k0_dev7 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v9 : BitVec 1 := Scalar.cmpi .sgt v2 c0_i32
  let v10 : BitVec 32 := Scalar.extui v9
  let c0_i32_4 : BitVec 32 := 0#32
  let v11 : BitVec 1 := Scalar.cmpi .slt v2 c0_i32_4
  let v12 : BitVec 32 := Scalar.extui v11
  let v13 : BitVec 32 := Scalar.subi v10 v12
  let c4_i32_3 : BitVec 32 := 4#32
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v2 c4_i32_3
  let c0_i32_7 : BitVec 32 := 0#32
  let v21 : BitVec 1 := Scalar.cmpi .ne v20 c0_i32_7
  let v22 : BitVec 1 := Scalar.andi v19 v21
  let v8 : BitVec 32 := Scalar.divsi v2 c4_i32_3
  let c1_i32_8 : BitVec 32 := 1#32
  let v23 : BitVec 32 := Scalar.subi v8 c1_i32_8
  let v24 : BitVec 32 := Scalar.select v22 v23 v8
  let c0_i32_142 : BitVec 32 := 0#32
  let v186 : BitVec 32 := Scalar.xori v24 c0_i32_142
  let c4_i32_144 : BitVec 32 := 4#32
  let v189 : BitVec 32 := Scalar.muli v186 c4_i32_144
  let c4_i32 : BitVec 32 := 4#32
  let v3 : BitVec 32 := Scalar.remsi v2 c4_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c0_i32_140 : BitVec 32 := 0#32
  let v184 : BitVec 32 := Scalar.xori v6 c0_i32_140
  let c1_i32_2 : BitVec 32 := 1#32
  let v7 : BitVec 32 := Scalar.shrsi v5 c1_i32_2
  let c1_i32_141 : BitVec 32 := 1#32
  let v185 : BitVec 32 := Scalar.xori v7 c1_i32_141
  let c1_i32_143 : BitVec 32 := 1#32
  let v187 : BitVec 32 := Scalar.shli v185 c1_i32_143
  let v188 : BitVec 32 := Scalar.ori v184 v187
  let c1_i32_145 : BitVec 32 := 1#32
  let v190 : BitVec 32 := Scalar.shrsi v188 c1_i32_145
  let v191 : BitVec 32 := Scalar.xori v188 v190
  let v192 : BitVec 32 := Scalar.addi v189 v191
  let c1_i32_150 : BitVec 32 := 1#32
  let v193 : BitVec 32 := Scalar.muli v192 c1_i32_150
  let v194 : BitVec 32 := Scalar.addi c0_i32_151 v193
  v194.toNat
def k0_dev8 (d0 : Dev nD) : Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v9 : BitVec 1 := Scalar.cmpi .sgt v2 c0_i32
  let v10 : BitVec 32 := Scalar.extui v9
  let c0_i32_4 : BitVec 32 := 0#32
  let v11 : BitVec 1 := Scalar.cmpi .slt v2 c0_i32_4
  let v12 : BitVec 32 := Scalar.extui v11
  let v13 : BitVec 32 := Scalar.subi v10 v12
  let c4_i32_3 : BitVec 32 := 4#32
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v2 c4_i32_3
  let c0_i32_7 : BitVec 32 := 0#32
  let v21 : BitVec 1 := Scalar.cmpi .ne v20 c0_i32_7
  let v22 : BitVec 1 := Scalar.andi v19 v21
  let v8 : BitVec 32 := Scalar.divsi v2 c4_i32_3
  let c1_i32_8 : BitVec 32 := 1#32
  let v23 : BitVec 32 := Scalar.subi v8 c1_i32_8
  let v24 : BitVec 32 := Scalar.select v22 v23 v8
  let c1_i32_165 : BitVec 32 := 1#32
  let v214 : BitVec 32 := Scalar.xori v24 c1_i32_165
  let c4_i32_167 : BitVec 32 := 4#32
  let v217 : BitVec 32 := Scalar.muli v214 c4_i32_167
  let c4_i32 : BitVec 32 := 4#32
  let v3 : BitVec 32 := Scalar.remsi v2 c4_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c0_i32_163 : BitVec 32 := 0#32
  let v212 : BitVec 32 := Scalar.xori v6 c0_i32_163
  let c1_i32_2 : BitVec 32 := 1#32
  let v7 : BitVec 32 := Scalar.shrsi v5 c1_i32_2
  let c0_i32_164 : BitVec 32 := 0#32
  let v213 : BitVec 32 := Scalar.xori v7 c0_i32_164
  let c1_i32_166 : BitVec 32 := 1#32
  let v215 : BitVec 32 := Scalar.shli v213 c1_i32_166
  let v216 : BitVec 32 := Scalar.ori v212 v215
  let c1_i32_168 : BitVec 32 := 1#32
  let v218 : BitVec 32 := Scalar.shrsi v216 c1_i32_168
  let v219 : BitVec 32 := Scalar.xori v216 v218
  let v220 : BitVec 32 := Scalar.addi v217 v219
  let c1_i32_173 : BitVec 32 := 1#32
  let v221 : BitVec 32 := Scalar.muli v220 c1_i32_173
  let v222 : BitVec 32 := Scalar.addi c0_i32_174 v221
  v222.toNat
def k0_dev9 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v9 : BitVec 1 := Scalar.cmpi .sgt v2 c0_i32
  let v10 : BitVec 32 := Scalar.extui v9
  let c0_i32_4 : BitVec 32 := 0#32
  let v11 : BitVec 1 := Scalar.cmpi .slt v2 c0_i32_4
  let v12 : BitVec 32 := Scalar.extui v11
  let v13 : BitVec 32 := Scalar.subi v10 v12
  let c4_i32_3 : BitVec 32 := 4#32
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v2 c4_i32_3
  let c0_i32_7 : BitVec 32 := 0#32
  let v21 : BitVec 1 := Scalar.cmpi .ne v20 c0_i32_7
  let v22 : BitVec 1 := Scalar.andi v19 v21
  let v8 : BitVec 32 := Scalar.divsi v2 c4_i32_3
  let c1_i32_8 : BitVec 32 := 1#32
  let v23 : BitVec 32 := Scalar.subi v8 c1_i32_8
  let v24 : BitVec 32 := Scalar.select v22 v23 v8
  let c0_i32_188 : BitVec 32 := 0#32
  let v242 : BitVec 32 := Scalar.xori v24 c0_i32_188
  let c4_i32_190 : BitVec 32 := 4#32
  let v245 : BitVec 32 := Scalar.muli v242 c4_i32_190
  let c4_i32 : BitVec 32 := 4#32
  let v3 : BitVec 32 := Scalar.remsi v2 c4_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c1_i32_186 : BitVec 32 := 1#32
  let v240 : BitVec 32 := Scalar.xori v6 c1_i32_186
  let c1_i32_2 : BitVec 32 := 1#32
  let v7 : BitVec 32 := Scalar.shrsi v5 c1_i32_2
  let c0_i32_187 : BitVec 32 := 0#32
  let v241 : BitVec 32 := Scalar.xori v7 c0_i32_187
  let c1_i32_189 : BitVec 32 := 1#32
  let v243 : BitVec 32 := Scalar.shli v241 c1_i32_189
  let v244 : BitVec 32 := Scalar.ori v240 v243
  let c1_i32_191 : BitVec 32 := 1#32
  let v246 : BitVec 32 := Scalar.shrsi v244 c1_i32_191
  let v247 : BitVec 32 := Scalar.xori v244 v246
  let v248 : BitVec 32 := Scalar.addi v245 v247
  let c1_i32_196 : BitVec 32 := 1#32
  let v249 : BitVec 32 := Scalar.muli v248 c1_i32_196
  let v250 : BitVec 32 := Scalar.addi c0_i32_197 v249
  v250.toNat
def k0_off2 (d0 : Dev nD) (c0_i32_211 : BitVec 32) (c0_i32_209 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v9 : BitVec 1 := Scalar.cmpi .sgt v2 c0_i32
  let v10 : BitVec 32 := Scalar.extui v9
  let c0_i32_4 : BitVec 32 := 0#32
  let v11 : BitVec 1 := Scalar.cmpi .slt v2 c0_i32_4
  let v12 : BitVec 32 := Scalar.extui v11
  let v13 : BitVec 32 := Scalar.subi v10 v12
  let c4_i32_3 : BitVec 32 := 4#32
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v2 c4_i32_3
  let c0_i32_7 : BitVec 32 := 0#32
  let v21 : BitVec 1 := Scalar.cmpi .ne v20 c0_i32_7
  let v22 : BitVec 1 := Scalar.andi v19 v21
  let v8 : BitVec 32 := Scalar.divsi v2 c4_i32_3
  let c1_i32_8 : BitVec 32 := 1#32
  let v23 : BitVec 32 := Scalar.subi v8 c1_i32_8
  let v24 : BitVec 32 := Scalar.select v22 v23 v8
  let v268 : BitVec 32 := Scalar.xori v24 c0_i32_211
  let c4_i32_213 : BitVec 32 := 4#32
  let v271 : BitVec 32 := Scalar.muli v268 c4_i32_213
  let c4_i32 : BitVec 32 := 4#32
  let v3 : BitVec 32 := Scalar.remsi v2 c4_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let v266 : BitVec 32 := Scalar.xori v6 c0_i32_209
  let c1_i32_2 : BitVec 32 := 1#32
  let v7 : BitVec 32 := Scalar.shrsi v5 c1_i32_2
  let c0_i32_210 : BitVec 32 := 0#32
  let v267 : BitVec 32 := Scalar.xori v7 c0_i32_210
  let c1_i32_212 : BitVec 32 := 1#32
  let v269 : BitVec 32 := Scalar.shli v267 c1_i32_212
  let v270 : BitVec 32 := Scalar.ori v266 v269
  let c1_i32_214 : BitVec 32 := 1#32
  let v272 : BitVec 32 := Scalar.shrsi v270 c1_i32_214
  let v273 : BitVec 32 := Scalar.xori v270 v272
  let v274 : BitVec 32 := Scalar.addi v271 v273
  let c8192_i32_215 : BitVec 32 := 8192#32
  let v275 : BitVec 32 := Scalar.muli v274 c8192_i32_215
  let c5440_i32_216 : BitVec 32 := 5440#32
  let v276 : BitVec 32 := Scalar.addi v275 c5440_i32_216
  let c0_i32_229 : BitVec 32 := 0#32
  ![v276.toNat, 0]
def k0_dev10 (d0 : Dev nD) : Nat :=
  let c0_i32_228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v9 : BitVec 1 := Scalar.cmpi .sgt v2 c0_i32
  let v10 : BitVec 32 := Scalar.extui v9
  let c0_i32_4 : BitVec 32 := 0#32
  let v11 : BitVec 1 := Scalar.cmpi .slt v2 c0_i32_4
  let v12 : BitVec 32 := Scalar.extui v11
  let v13 : BitVec 32 := Scalar.subi v10 v12
  let c4_i32_3 : BitVec 32 := 4#32
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v2 c4_i32_3
  let c0_i32_7 : BitVec 32 := 0#32
  let v21 : BitVec 1 := Scalar.cmpi .ne v20 c0_i32_7
  let v22 : BitVec 1 := Scalar.andi v19 v21
  let v8 : BitVec 32 := Scalar.divsi v2 c4_i32_3
  let c1_i32_8 : BitVec 32 := 1#32
  let v23 : BitVec 32 := Scalar.subi v8 c1_i32_8
  let v24 : BitVec 32 := Scalar.select v22 v23 v8
  let c1_i32_219 : BitVec 32 := 1#32
  let v279 : BitVec 32 := Scalar.xori v24 c1_i32_219
  let c4_i32_221 : BitVec 32 := 4#32
  let v282 : BitVec 32 := Scalar.muli v279 c4_i32_221
  let c4_i32 : BitVec 32 := 4#32
  let v3 : BitVec 32 := Scalar.remsi v2 c4_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c0_i32_217 : BitVec 32 := 0#32
  let v277 : BitVec 32 := Scalar.xori v6 c0_i32_217
  let c1_i32_2 : BitVec 32 := 1#32
  let v7 : BitVec 32 := Scalar.shrsi v5 c1_i32_2
  let c0_i32_218 : BitVec 32 := 0#32
  let v278 : BitVec 32 := Scalar.xori v7 c0_i32_218
  let c1_i32_220 : BitVec 32 := 1#32
  let v280 : BitVec 32 := Scalar.shli v278 c1_i32_220
  let v281 : BitVec 32 := Scalar.ori v277 v280
  let c1_i32_222 : BitVec 32 := 1#32
  let v283 : BitVec 32 := Scalar.shrsi v281 c1_i32_222
  let v284 : BitVec 32 := Scalar.xori v281 v283
  let v285 : BitVec 32 := Scalar.addi v282 v284
  let c1_i32_227 : BitVec 32 := 1#32
  let v286 : BitVec 32 := Scalar.muli v285 c1_i32_227
  let v287 : BitVec 32 := Scalar.addi c0_i32_228 v286
  v287.toNat
def k0_dev11 (d0 : Dev nD) : Nat :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v9 : BitVec 1 := Scalar.cmpi .sgt v2 c0_i32
  let v10 : BitVec 32 := Scalar.extui v9
  let c0_i32_4 : BitVec 32 := 0#32
  let v11 : BitVec 1 := Scalar.cmpi .slt v2 c0_i32_4
  let v12 : BitVec 32 := Scalar.extui v11
  let v13 : BitVec 32 := Scalar.subi v10 v12
  let c4_i32_3 : BitVec 32 := 4#32
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v2 c4_i32_3
  let c0_i32_7 : BitVec 32 := 0#32
  let v21 : BitVec 1 := Scalar.cmpi .ne v20 c0_i32_7
  let v22 : BitVec 1 := Scalar.andi v19 v21
  let v8 : BitVec 32 := Scalar.divsi v2 c4_i32_3
  let c1_i32_8 : BitVec 32 := 1#32
  let v23 : BitVec 32 := Scalar.subi v8 c1_i32_8
  let v24 : BitVec 32 := Scalar.select v22 v23 v8
  let c0_i32_242 : BitVec 32 := 0#32
  let v307 : BitVec 32 := Scalar.xori v24 c0_i32_242
  let c4_i32_244 : BitVec 32 := 4#32
  let v310 : BitVec 32 := Scalar.muli v307 c4_i32_244
  let c4_i32 : BitVec 32 := 4#32
  let v3 : BitVec 32 := Scalar.remsi v2 c4_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c1_i32_240 : BitVec 32 := 1#32
  let v305 : BitVec 32 := Scalar.xori v6 c1_i32_240
  let c1_i32_2 : BitVec 32 := 1#32
  let v7 : BitVec 32 := Scalar.shrsi v5 c1_i32_2
  let c0_i32_241 : BitVec 32 := 0#32
  let v306 : BitVec 32 := Scalar.xori v7 c0_i32_241
  let c1_i32_243 : BitVec 32 := 1#32
  let v308 : BitVec 32 := Scalar.shli v306 c1_i32_243
  let v309 : BitVec 32 := Scalar.ori v305 v308
  let c1_i32_245 : BitVec 32 := 1#32
  let v311 : BitVec 32 := Scalar.shrsi v309 c1_i32_245
  let v312 : BitVec 32 := Scalar.xori v309 v311
  let v313 : BitVec 32 := Scalar.addi v310 v312
  let c1_i32_250 : BitVec 32 := 1#32
  let v314 : BitVec 32 := Scalar.muli v313 c1_i32_250
  let v315 : BitVec 32 := Scalar.addi c0_i32_251 v314
  v315.toNat
def k0_dev12 (d0 : Dev nD) : Nat :=
  let c0_i32_274 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v9 : BitVec 1 := Scalar.cmpi .sgt v2 c0_i32
  let v10 : BitVec 32 := Scalar.extui v9
  let c0_i32_4 : BitVec 32 := 0#32
  let v11 : BitVec 1 := Scalar.cmpi .slt v2 c0_i32_4
  let v12 : BitVec 32 := Scalar.extui v11
  let v13 : BitVec 32 := Scalar.subi v10 v12
  let c4_i32_3 : BitVec 32 := 4#32
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v2 c4_i32_3
  let c0_i32_7 : BitVec 32 := 0#32
  let v21 : BitVec 1 := Scalar.cmpi .ne v20 c0_i32_7
  let v22 : BitVec 1 := Scalar.andi v19 v21
  let v8 : BitVec 32 := Scalar.divsi v2 c4_i32_3
  let c1_i32_8 : BitVec 32 := 1#32
  let v23 : BitVec 32 := Scalar.subi v8 c1_i32_8
  let v24 : BitVec 32 := Scalar.select v22 v23 v8
  let c0_i32_265 : BitVec 32 := 0#32
  let v335 : BitVec 32 := Scalar.xori v24 c0_i32_265
  let c4_i32_267 : BitVec 32 := 4#32
  let v338 : BitVec 32 := Scalar.muli v335 c4_i32_267
  let c4_i32 : BitVec 32 := 4#32
  let v3 : BitVec 32 := Scalar.remsi v2 c4_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c0_i32_263 : BitVec 32 := 0#32
  let v333 : BitVec 32 := Scalar.xori v6 c0_i32_263
  let c1_i32_2 : BitVec 32 := 1#32
  let v7 : BitVec 32 := Scalar.shrsi v5 c1_i32_2
  let c1_i32_264 : BitVec 32 := 1#32
  let v334 : BitVec 32 := Scalar.xori v7 c1_i32_264
  let c1_i32_266 : BitVec 32 := 1#32
  let v336 : BitVec 32 := Scalar.shli v334 c1_i32_266
  let v337 : BitVec 32 := Scalar.ori v333 v336
  let c1_i32_268 : BitVec 32 := 1#32
  let v339 : BitVec 32 := Scalar.shrsi v337 c1_i32_268
  let v340 : BitVec 32 := Scalar.xori v337 v339
  let v341 : BitVec 32 := Scalar.addi v338 v340
  let c1_i32_273 : BitVec 32 := 1#32
  let v342 : BitVec 32 := Scalar.muli v341 c1_i32_273
  let v343 : BitVec 32 := Scalar.addi c0_i32_274 v342
  v343.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_278 : BitVec 32 := 8192#32
  let v350 : BitVec 32 := Scalar.muli v2 c8192_i32_278
  let c0_i32_279 : BitVec 32 := 0#32
  ![v350.toNat, 0]
def k0_dev13 (d0 : Dev nD) : Nat :=
  let c0_i32_308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v9 : BitVec 1 := Scalar.cmpi .sgt v2 c0_i32
  let v10 : BitVec 32 := Scalar.extui v9
  let c0_i32_4 : BitVec 32 := 0#32
  let v11 : BitVec 1 := Scalar.cmpi .slt v2 c0_i32_4
  let v12 : BitVec 32 := Scalar.extui v11
  let v13 : BitVec 32 := Scalar.subi v10 v12
  let c4_i32_3 : BitVec 32 := 4#32
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v2 c4_i32_3
  let c0_i32_7 : BitVec 32 := 0#32
  let v21 : BitVec 1 := Scalar.cmpi .ne v20 c0_i32_7
  let v22 : BitVec 1 := Scalar.andi v19 v21
  let v8 : BitVec 32 := Scalar.divsi v2 c4_i32_3
  let c1_i32_8 : BitVec 32 := 1#32
  let v23 : BitVec 32 := Scalar.subi v8 c1_i32_8
  let v24 : BitVec 32 := Scalar.select v22 v23 v8
  let c0_i32_299 : BitVec 32 := 0#32
  let v371 : BitVec 32 := Scalar.xori v24 c0_i32_299
  let c4_i32_301 : BitVec 32 := 4#32
  let v374 : BitVec 32 := Scalar.muli v371 c4_i32_301
  let c4_i32 : BitVec 32 := 4#32
  let v3 : BitVec 32 := Scalar.remsi v2 c4_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c0_i32_297 : BitVec 32 := 0#32
  let v369 : BitVec 32 := Scalar.xori v6 c0_i32_297
  let c1_i32_2 : BitVec 32 := 1#32
  let v7 : BitVec 32 := Scalar.shrsi v5 c1_i32_2
  let c1_i32_298 : BitVec 32 := 1#32
  let v370 : BitVec 32 := Scalar.xori v7 c1_i32_298
  let c1_i32_300 : BitVec 32 := 1#32
  let v372 : BitVec 32 := Scalar.shli v370 c1_i32_300
  let v373 : BitVec 32 := Scalar.ori v369 v372
  let c1_i32_302 : BitVec 32 := 1#32
  let v375 : BitVec 32 := Scalar.shrsi v373 c1_i32_302
  let v376 : BitVec 32 := Scalar.xori v373 v375
  let v377 : BitVec 32 := Scalar.addi v374 v376
  let c1_i32_307 : BitVec 32 := 1#32
  let v378 : BitVec 32 := Scalar.muli v377 c1_i32_307
  let v379 : BitVec 32 := Scalar.addi c0_i32_308 v378
  v379.toNat
def k0_dev14 (d0 : Dev nD) : Nat :=
  let c0_i32_330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v9 : BitVec 1 := Scalar.cmpi .sgt v2 c0_i32
  let v10 : BitVec 32 := Scalar.extui v9
  let c0_i32_4 : BitVec 32 := 0#32
  let v11 : BitVec 1 := Scalar.cmpi .slt v2 c0_i32_4
  let v12 : BitVec 32 := Scalar.extui v11
  let v13 : BitVec 32 := Scalar.subi v10 v12
  let c4_i32_3 : BitVec 32 := 4#32
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v2 c4_i32_3
  let c0_i32_7 : BitVec 32 := 0#32
  let v21 : BitVec 1 := Scalar.cmpi .ne v20 c0_i32_7
  let v22 : BitVec 1 := Scalar.andi v19 v21
  let v8 : BitVec 32 := Scalar.divsi v2 c4_i32_3
  let c1_i32_8 : BitVec 32 := 1#32
  let v23 : BitVec 32 := Scalar.subi v8 c1_i32_8
  let v24 : BitVec 32 := Scalar.select v22 v23 v8
  let c1_i32_321 : BitVec 32 := 1#32
  let v399 : BitVec 32 := Scalar.xori v24 c1_i32_321
  let c4_i32_323 : BitVec 32 := 4#32
  let v402 : BitVec 32 := Scalar.muli v399 c4_i32_323
  let c4_i32 : BitVec 32 := 4#32
  let v3 : BitVec 32 := Scalar.remsi v2 c4_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c0_i32_319 : BitVec 32 := 0#32
  let v397 : BitVec 32 := Scalar.xori v6 c0_i32_319
  let c1_i32_2 : BitVec 32 := 1#32
  let v7 : BitVec 32 := Scalar.shrsi v5 c1_i32_2
  let c0_i32_320 : BitVec 32 := 0#32
  let v398 : BitVec 32 := Scalar.xori v7 c0_i32_320
  let c1_i32_322 : BitVec 32 := 1#32
  let v400 : BitVec 32 := Scalar.shli v398 c1_i32_322
  let v401 : BitVec 32 := Scalar.ori v397 v400
  let c1_i32_324 : BitVec 32 := 1#32
  let v403 : BitVec 32 := Scalar.shrsi v401 c1_i32_324
  let v404 : BitVec 32 := Scalar.xori v401 v403
  let v405 : BitVec 32 := Scalar.addi v402 v404
  let c1_i32_329 : BitVec 32 := 1#32
  let v406 : BitVec 32 := Scalar.muli v405 c1_i32_329
  let v407 : BitVec 32 := Scalar.addi c0_i32_330 v406
  v407.toNat
def k0_dev15 (d0 : Dev nD) : Nat :=
  let c0_i32_361 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v9 : BitVec 1 := Scalar.cmpi .sgt v2 c0_i32
  let v10 : BitVec 32 := Scalar.extui v9
  let c0_i32_4 : BitVec 32 := 0#32
  let v11 : BitVec 1 := Scalar.cmpi .slt v2 c0_i32_4
  let v12 : BitVec 32 := Scalar.extui v11
  let v13 : BitVec 32 := Scalar.subi v10 v12
  let c4_i32_3 : BitVec 32 := 4#32
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v2 c4_i32_3
  let c0_i32_7 : BitVec 32 := 0#32
  let v21 : BitVec 1 := Scalar.cmpi .ne v20 c0_i32_7
  let v22 : BitVec 1 := Scalar.andi v19 v21
  let v8 : BitVec 32 := Scalar.divsi v2 c4_i32_3
  let c1_i32_8 : BitVec 32 := 1#32
  let v23 : BitVec 32 := Scalar.subi v8 c1_i32_8
  let v24 : BitVec 32 := Scalar.select v22 v23 v8
  let c1_i32_352 : BitVec 32 := 1#32
  let v433 : BitVec 32 := Scalar.xori v24 c1_i32_352
  let c4_i32_354 : BitVec 32 := 4#32
  let v436 : BitVec 32 := Scalar.muli v433 c4_i32_354
  let c4_i32 : BitVec 32 := 4#32
  let v3 : BitVec 32 := Scalar.remsi v2 c4_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c0_i32_350 : BitVec 32 := 0#32
  let v431 : BitVec 32 := Scalar.xori v6 c0_i32_350
  let c1_i32_2 : BitVec 32 := 1#32
  let v7 : BitVec 32 := Scalar.shrsi v5 c1_i32_2
  let c0_i32_351 : BitVec 32 := 0#32
  let v432 : BitVec 32 := Scalar.xori v7 c0_i32_351
  let c1_i32_353 : BitVec 32 := 1#32
  let v434 : BitVec 32 := Scalar.shli v432 c1_i32_353
  let v435 : BitVec 32 := Scalar.ori v431 v434
  let c1_i32_355 : BitVec 32 := 1#32
  let v437 : BitVec 32 := Scalar.shrsi v435 c1_i32_355
  let v438 : BitVec 32 := Scalar.xori v435 v437
  let v439 : BitVec 32 := Scalar.addi v436 v438
  let c1_i32_360 : BitVec 32 := 1#32
  let v440 : BitVec 32 := Scalar.muli v439 c1_i32_360
  let v441 : BitVec 32 := Scalar.addi c0_i32_361 v440
  v441.toNat
def k0_dev16 (d0 : Dev nD) : Nat :=
  let c0_i32_383 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v9 : BitVec 1 := Scalar.cmpi .sgt v2 c0_i32
  let v10 : BitVec 32 := Scalar.extui v9
  let c0_i32_4 : BitVec 32 := 0#32
  let v11 : BitVec 1 := Scalar.cmpi .slt v2 c0_i32_4
  let v12 : BitVec 32 := Scalar.extui v11
  let v13 : BitVec 32 := Scalar.subi v10 v12
  let c4_i32_3 : BitVec 32 := 4#32
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v2 c4_i32_3
  let c0_i32_7 : BitVec 32 := 0#32
  let v21 : BitVec 1 := Scalar.cmpi .ne v20 c0_i32_7
  let v22 : BitVec 1 := Scalar.andi v19 v21
  let v8 : BitVec 32 := Scalar.divsi v2 c4_i32_3
  let c1_i32_8 : BitVec 32 := 1#32
  let v23 : BitVec 32 := Scalar.subi v8 c1_i32_8
  let v24 : BitVec 32 := Scalar.select v22 v23 v8
  let c0_i32_374 : BitVec 32 := 0#32
  let v461 : BitVec 32 := Scalar.xori v24 c0_i32_374
  let c4_i32_376 : BitVec 32 := 4#32
  let v464 : BitVec 32 := Scalar.muli v461 c4_i32_376
  let c4_i32 : BitVec 32 := 4#32
  let v3 : BitVec 32 := Scalar.remsi v2 c4_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c1_i32_372 : BitVec 32 := 1#32
  let v459 : BitVec 32 := Scalar.xori v6 c1_i32_372
  let c1_i32_2 : BitVec 32 := 1#32
  let v7 : BitVec 32 := Scalar.shrsi v5 c1_i32_2
  let c0_i32_373 : BitVec 32 := 0#32
  let v460 : BitVec 32 := Scalar.xori v7 c0_i32_373
  let c1_i32_375 : BitVec 32 := 1#32
  let v462 : BitVec 32 := Scalar.shli v460 c1_i32_375
  let v463 : BitVec 32 := Scalar.ori v459 v462
  let c1_i32_377 : BitVec 32 := 1#32
  let v465 : BitVec 32 := Scalar.shrsi v463 c1_i32_377
  let v466 : BitVec 32 := Scalar.xori v463 v465
  let v467 : BitVec 32 := Scalar.addi v464 v466
  let c1_i32_382 : BitVec 32 := 1#32
  let v468 : BitVec 32 := Scalar.muli v467 c1_i32_382
  let v469 : BitVec 32 := Scalar.addi c0_i32_383 v468
  v469.toNat
def k0_dev17 (d0 : Dev nD) : Nat :=
  let c0_i32_414 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v9 : BitVec 1 := Scalar.cmpi .sgt v2 c0_i32
  let v10 : BitVec 32 := Scalar.extui v9
  let c0_i32_4 : BitVec 32 := 0#32
  let v11 : BitVec 1 := Scalar.cmpi .slt v2 c0_i32_4
  let v12 : BitVec 32 := Scalar.extui v11
  let v13 : BitVec 32 := Scalar.subi v10 v12
  let c4_i32_3 : BitVec 32 := 4#32
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v2 c4_i32_3
  let c0_i32_7 : BitVec 32 := 0#32
  let v21 : BitVec 1 := Scalar.cmpi .ne v20 c0_i32_7
  let v22 : BitVec 1 := Scalar.andi v19 v21
  let v8 : BitVec 32 := Scalar.divsi v2 c4_i32_3
  let c1_i32_8 : BitVec 32 := 1#32
  let v23 : BitVec 32 := Scalar.subi v8 c1_i32_8
  let v24 : BitVec 32 := Scalar.select v22 v23 v8
  let c0_i32_405 : BitVec 32 := 0#32
  let v495 : BitVec 32 := Scalar.xori v24 c0_i32_405
  let c4_i32_407 : BitVec 32 := 4#32
  let v498 : BitVec 32 := Scalar.muli v495 c4_i32_407
  let c4_i32 : BitVec 32 := 4#32
  let v3 : BitVec 32 := Scalar.remsi v2 c4_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c1_i32_403 : BitVec 32 := 1#32
  let v493 : BitVec 32 := Scalar.xori v6 c1_i32_403
  let c1_i32_2 : BitVec 32 := 1#32
  let v7 : BitVec 32 := Scalar.shrsi v5 c1_i32_2
  let c0_i32_404 : BitVec 32 := 0#32
  let v494 : BitVec 32 := Scalar.xori v7 c0_i32_404
  let c1_i32_406 : BitVec 32 := 1#32
  let v496 : BitVec 32 := Scalar.shli v494 c1_i32_406
  let v497 : BitVec 32 := Scalar.ori v493 v496
  let c1_i32_408 : BitVec 32 := 1#32
  let v499 : BitVec 32 := Scalar.shrsi v497 c1_i32_408
  let v500 : BitVec 32 := Scalar.xori v497 v499
  let v501 : BitVec 32 := Scalar.addi v498 v500
  let c1_i32_413 : BitVec 32 := 1#32
  let v502 : BitVec 32 := Scalar.muli v501 c1_i32_413
  let v503 : BitVec 32 := Scalar.addi c0_i32_414 v502
  v503.toNat
def k0_dev18 (d0 : Dev nD) : Nat :=
  let c0_i32_436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v9 : BitVec 1 := Scalar.cmpi .sgt v2 c0_i32
  let v10 : BitVec 32 := Scalar.extui v9
  let c0_i32_4 : BitVec 32 := 0#32
  let v11 : BitVec 1 := Scalar.cmpi .slt v2 c0_i32_4
  let v12 : BitVec 32 := Scalar.extui v11
  let v13 : BitVec 32 := Scalar.subi v10 v12
  let c4_i32_3 : BitVec 32 := 4#32
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v2 c4_i32_3
  let c0_i32_7 : BitVec 32 := 0#32
  let v21 : BitVec 1 := Scalar.cmpi .ne v20 c0_i32_7
  let v22 : BitVec 1 := Scalar.andi v19 v21
  let v8 : BitVec 32 := Scalar.divsi v2 c4_i32_3
  let c1_i32_8 : BitVec 32 := 1#32
  let v23 : BitVec 32 := Scalar.subi v8 c1_i32_8
  let v24 : BitVec 32 := Scalar.select v22 v23 v8
  let c0_i32_427 : BitVec 32 := 0#32
  let v523 : BitVec 32 := Scalar.xori v24 c0_i32_427
  let c4_i32_429 : BitVec 32 := 4#32
  let v526 : BitVec 32 := Scalar.muli v523 c4_i32_429
  let c4_i32 : BitVec 32 := 4#32
  let v3 : BitVec 32 := Scalar.remsi v2 c4_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c0_i32_425 : BitVec 32 := 0#32
  let v521 : BitVec 32 := Scalar.xori v6 c0_i32_425
  let c1_i32_2 : BitVec 32 := 1#32
  let v7 : BitVec 32 := Scalar.shrsi v5 c1_i32_2
  let c1_i32_426 : BitVec 32 := 1#32
  let v522 : BitVec 32 := Scalar.xori v7 c1_i32_426
  let c1_i32_428 : BitVec 32 := 1#32
  let v524 : BitVec 32 := Scalar.shli v522 c1_i32_428
  let v525 : BitVec 32 := Scalar.ori v521 v524
  let c1_i32_430 : BitVec 32 := 1#32
  let v527 : BitVec 32 := Scalar.shrsi v525 c1_i32_430
  let v528 : BitVec 32 := Scalar.xori v525 v527
  let v529 : BitVec 32 := Scalar.addi v526 v528
  let c1_i32_435 : BitVec 32 := 1#32
  let v530 : BitVec 32 := Scalar.muli v529 c1_i32_435
  let v531 : BitVec 32 := Scalar.addi c0_i32_436 v530
  v531.toNat
def k0_dev19 (d0 : Dev nD) : Nat :=
  let c0_i32_474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v9 : BitVec 1 := Scalar.cmpi .sgt v2 c0_i32
  let v10 : BitVec 32 := Scalar.extui v9
  let c0_i32_4 : BitVec 32 := 0#32
  let v11 : BitVec 1 := Scalar.cmpi .slt v2 c0_i32_4
  let v12 : BitVec 32 := Scalar.extui v11
  let v13 : BitVec 32 := Scalar.subi v10 v12
  let c4_i32_3 : BitVec 32 := 4#32
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v2 c4_i32_3
  let c0_i32_7 : BitVec 32 := 0#32
  let v21 : BitVec 1 := Scalar.cmpi .ne v20 c0_i32_7
  let v22 : BitVec 1 := Scalar.andi v19 v21
  let v8 : BitVec 32 := Scalar.divsi v2 c4_i32_3
  let c1_i32_8 : BitVec 32 := 1#32
  let v23 : BitVec 32 := Scalar.subi v8 c1_i32_8
  let v24 : BitVec 32 := Scalar.select v22 v23 v8
  let c1_i32_466 : BitVec 32 := 1#32
  let v563 : BitVec 32 := Scalar.xori v24 c1_i32_466
  let c4_i32_468 : BitVec 32 := 4#32
  let v566 : BitVec 32 := Scalar.muli v563 c4_i32_468
  let c4_i32 : BitVec 32 := 4#32
  let v3 : BitVec 32 := Scalar.remsi v2 c4_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c0_i32_464 : BitVec 32 := 0#32
  let v561 : BitVec 32 := Scalar.xori v6 c0_i32_464
  let c1_i32_2 : BitVec 32 := 1#32
  let v7 : BitVec 32 := Scalar.shrsi v5 c1_i32_2
  let c0_i32_465 : BitVec 32 := 0#32
  let v562 : BitVec 32 := Scalar.xori v7 c0_i32_465
  let c1_i32_467 : BitVec 32 := 1#32
  let v564 : BitVec 32 := Scalar.shli v562 c1_i32_467
  let v565 : BitVec 32 := Scalar.ori v561 v564
  let c1_i32_469 : BitVec 32 := 1#32
  let v567 : BitVec 32 := Scalar.shrsi v565 c1_i32_469
  let v568 : BitVec 32 := Scalar.xori v565 v567
  let v569 : BitVec 32 := Scalar.addi v566 v568
  let c1_i32_473 : BitVec 32 := 1#32
  let v570 : BitVec 32 := Scalar.muli v569 c1_i32_473
  let v571 : BitVec 32 := Scalar.addi c0_i32_474 v570
  v571.toNat
def k0_dev20 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v9 : BitVec 1 := Scalar.cmpi .sgt v2 c0_i32
  let v10 : BitVec 32 := Scalar.extui v9
  let c0_i32_4 : BitVec 32 := 0#32
  let v11 : BitVec 1 := Scalar.cmpi .slt v2 c0_i32_4
  let v12 : BitVec 32 := Scalar.extui v11
  let v13 : BitVec 32 := Scalar.subi v10 v12
  let c4_i32_3 : BitVec 32 := 4#32
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v2 c4_i32_3
  let c0_i32_7 : BitVec 32 := 0#32
  let v21 : BitVec 1 := Scalar.cmpi .ne v20 c0_i32_7
  let v22 : BitVec 1 := Scalar.andi v19 v21
  let v8 : BitVec 32 := Scalar.divsi v2 c4_i32_3
  let c1_i32_8 : BitVec 32 := 1#32
  let v23 : BitVec 32 := Scalar.subi v8 c1_i32_8
  let v24 : BitVec 32 := Scalar.select v22 v23 v8
  let c1_i32_487 : BitVec 32 := 1#32
  let v591 : BitVec 32 := Scalar.xori v24 c1_i32_487
  let c4_i32_489 : BitVec 32 := 4#32
  let v594 : BitVec 32 := Scalar.muli v591 c4_i32_489
  let c4_i32 : BitVec 32 := 4#32
  let v3 : BitVec 32 := Scalar.remsi v2 c4_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c0_i32_485 : BitVec 32 := 0#32
  let v589 : BitVec 32 := Scalar.xori v6 c0_i32_485
  let c1_i32_2 : BitVec 32 := 1#32
  let v7 : BitVec 32 := Scalar.shrsi v5 c1_i32_2
  let c0_i32_486 : BitVec 32 := 0#32
  let v590 : BitVec 32 := Scalar.xori v7 c0_i32_486
  let c1_i32_488 : BitVec 32 := 1#32
  let v592 : BitVec 32 := Scalar.shli v590 c1_i32_488
  let v593 : BitVec 32 := Scalar.ori v589 v592
  let c1_i32_490 : BitVec 32 := 1#32
  let v595 : BitVec 32 := Scalar.shrsi v593 c1_i32_490
  let v596 : BitVec 32 := Scalar.xori v593 v595
  let v597 : BitVec 32 := Scalar.addi v594 v596
  let c1_i32_494 : BitVec 32 := 1#32
  let v598 : BitVec 32 := Scalar.muli v597 c1_i32_494
  let v599 : BitVec 32 := Scalar.addi c0_i32_495 v598
  v599.toNat
def k0_dev21 (d0 : Dev nD) : Nat :=
  let c0_i32_534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v9 : BitVec 1 := Scalar.cmpi .sgt v2 c0_i32
  let v10 : BitVec 32 := Scalar.extui v9
  let c0_i32_4 : BitVec 32 := 0#32
  let v11 : BitVec 1 := Scalar.cmpi .slt v2 c0_i32_4
  let v12 : BitVec 32 := Scalar.extui v11
  let v13 : BitVec 32 := Scalar.subi v10 v12
  let c4_i32_3 : BitVec 32 := 4#32
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v2 c4_i32_3
  let c0_i32_7 : BitVec 32 := 0#32
  let v21 : BitVec 1 := Scalar.cmpi .ne v20 c0_i32_7
  let v22 : BitVec 1 := Scalar.andi v19 v21
  let v8 : BitVec 32 := Scalar.divsi v2 c4_i32_3
  let c1_i32_8 : BitVec 32 := 1#32
  let v23 : BitVec 32 := Scalar.subi v8 c1_i32_8
  let v24 : BitVec 32 := Scalar.select v22 v23 v8
  let c0_i32_525 : BitVec 32 := 0#32
  let v631 : BitVec 32 := Scalar.xori v24 c0_i32_525
  let c4_i32_527 : BitVec 32 := 4#32
  let v634 : BitVec 32 := Scalar.muli v631 c4_i32_527
  let c4_i32 : BitVec 32 := 4#32
  let v3 : BitVec 32 := Scalar.remsi v2 c4_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c1_i32_523 : BitVec 32 := 1#32
  let v629 : BitVec 32 := Scalar.xori v6 c1_i32_523
  let c1_i32_2 : BitVec 32 := 1#32
  let v7 : BitVec 32 := Scalar.shrsi v5 c1_i32_2
  let c0_i32_524 : BitVec 32 := 0#32
  let v630 : BitVec 32 := Scalar.xori v7 c0_i32_524
  let c1_i32_526 : BitVec 32 := 1#32
  let v632 : BitVec 32 := Scalar.shli v630 c1_i32_526
  let v633 : BitVec 32 := Scalar.ori v629 v632
  let c1_i32_528 : BitVec 32 := 1#32
  let v635 : BitVec 32 := Scalar.shrsi v633 c1_i32_528
  let v636 : BitVec 32 := Scalar.xori v633 v635
  let v637 : BitVec 32 := Scalar.addi v634 v636
  let c1_i32_533 : BitVec 32 := 1#32
  let v638 : BitVec 32 := Scalar.muli v637 c1_i32_533
  let v639 : BitVec 32 := Scalar.addi c0_i32_534 v638
  v639.toNat
def k0_dev22 (d0 : Dev nD) : Nat :=
  let c0_i32_556 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v9 : BitVec 1 := Scalar.cmpi .sgt v2 c0_i32
  let v10 : BitVec 32 := Scalar.extui v9
  let c0_i32_4 : BitVec 32 := 0#32
  let v11 : BitVec 1 := Scalar.cmpi .slt v2 c0_i32_4
  let v12 : BitVec 32 := Scalar.extui v11
  let v13 : BitVec 32 := Scalar.subi v10 v12
  let c4_i32_3 : BitVec 32 := 4#32
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v2 c4_i32_3
  let c0_i32_7 : BitVec 32 := 0#32
  let v21 : BitVec 1 := Scalar.cmpi .ne v20 c0_i32_7
  let v22 : BitVec 1 := Scalar.andi v19 v21
  let v8 : BitVec 32 := Scalar.divsi v2 c4_i32_3
  let c1_i32_8 : BitVec 32 := 1#32
  let v23 : BitVec 32 := Scalar.subi v8 c1_i32_8
  let v24 : BitVec 32 := Scalar.select v22 v23 v8
  let c0_i32_547 : BitVec 32 := 0#32
  let v659 : BitVec 32 := Scalar.xori v24 c0_i32_547
  let c4_i32_549 : BitVec 32 := 4#32
  let v662 : BitVec 32 := Scalar.muli v659 c4_i32_549
  let c4_i32 : BitVec 32 := 4#32
  let v3 : BitVec 32 := Scalar.remsi v2 c4_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c1_i32_545 : BitVec 32 := 1#32
  let v657 : BitVec 32 := Scalar.xori v6 c1_i32_545
  let c1_i32_2 : BitVec 32 := 1#32
  let v7 : BitVec 32 := Scalar.shrsi v5 c1_i32_2
  let c0_i32_546 : BitVec 32 := 0#32
  let v658 : BitVec 32 := Scalar.xori v7 c0_i32_546
  let c1_i32_548 : BitVec 32 := 1#32
  let v660 : BitVec 32 := Scalar.shli v658 c1_i32_548
  let v661 : BitVec 32 := Scalar.ori v657 v660
  let c1_i32_550 : BitVec 32 := 1#32
  let v663 : BitVec 32 := Scalar.shrsi v661 c1_i32_550
  let v664 : BitVec 32 := Scalar.xori v661 v663
  let v665 : BitVec 32 := Scalar.addi v662 v664
  let c1_i32_555 : BitVec 32 := 1#32
  let v666 : BitVec 32 := Scalar.muli v665 c1_i32_555
  let v667 : BitVec 32 := Scalar.addi c0_i32_556 v666
  v667.toNat
def k0_dev23 (d0 : Dev nD) : Nat :=
  let c0_i32_595 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v9 : BitVec 1 := Scalar.cmpi .sgt v2 c0_i32
  let v10 : BitVec 32 := Scalar.extui v9
  let c0_i32_4 : BitVec 32 := 0#32
  let v11 : BitVec 1 := Scalar.cmpi .slt v2 c0_i32_4
  let v12 : BitVec 32 := Scalar.extui v11
  let v13 : BitVec 32 := Scalar.subi v10 v12
  let c4_i32_3 : BitVec 32 := 4#32
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v2 c4_i32_3
  let c0_i32_7 : BitVec 32 := 0#32
  let v21 : BitVec 1 := Scalar.cmpi .ne v20 c0_i32_7
  let v22 : BitVec 1 := Scalar.andi v19 v21
  let v8 : BitVec 32 := Scalar.divsi v2 c4_i32_3
  let c1_i32_8 : BitVec 32 := 1#32
  let v23 : BitVec 32 := Scalar.subi v8 c1_i32_8
  let v24 : BitVec 32 := Scalar.select v22 v23 v8
  let c0_i32_586 : BitVec 32 := 0#32
  let v699 : BitVec 32 := Scalar.xori v24 c0_i32_586
  let c4_i32_588 : BitVec 32 := 4#32
  let v702 : BitVec 32 := Scalar.muli v699 c4_i32_588
  let c4_i32 : BitVec 32 := 4#32
  let v3 : BitVec 32 := Scalar.remsi v2 c4_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c0_i32_584 : BitVec 32 := 0#32
  let v697 : BitVec 32 := Scalar.xori v6 c0_i32_584
  let c1_i32_2 : BitVec 32 := 1#32
  let v7 : BitVec 32 := Scalar.shrsi v5 c1_i32_2
  let c1_i32_585 : BitVec 32 := 1#32
  let v698 : BitVec 32 := Scalar.xori v7 c1_i32_585
  let c1_i32_587 : BitVec 32 := 1#32
  let v700 : BitVec 32 := Scalar.shli v698 c1_i32_587
  let v701 : BitVec 32 := Scalar.ori v697 v700
  let c1_i32_589 : BitVec 32 := 1#32
  let v703 : BitVec 32 := Scalar.shrsi v701 c1_i32_589
  let v704 : BitVec 32 := Scalar.xori v701 v703
  let v705 : BitVec 32 := Scalar.addi v702 v704
  let c1_i32_594 : BitVec 32 := 1#32
  let v706 : BitVec 32 := Scalar.muli v705 c1_i32_594
  let v707 : BitVec 32 := Scalar.addi c0_i32_595 v706
  v707.toNat
def k0_dev24 (d0 : Dev nD) : Nat :=
  let c0_i32_617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v9 : BitVec 1 := Scalar.cmpi .sgt v2 c0_i32
  let v10 : BitVec 32 := Scalar.extui v9
  let c0_i32_4 : BitVec 32 := 0#32
  let v11 : BitVec 1 := Scalar.cmpi .slt v2 c0_i32_4
  let v12 : BitVec 32 := Scalar.extui v11
  let v13 : BitVec 32 := Scalar.subi v10 v12
  let c4_i32_3 : BitVec 32 := 4#32
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v2 c4_i32_3
  let c0_i32_7 : BitVec 32 := 0#32
  let v21 : BitVec 1 := Scalar.cmpi .ne v20 c0_i32_7
  let v22 : BitVec 1 := Scalar.andi v19 v21
  let v8 : BitVec 32 := Scalar.divsi v2 c4_i32_3
  let c1_i32_8 : BitVec 32 := 1#32
  let v23 : BitVec 32 := Scalar.subi v8 c1_i32_8
  let v24 : BitVec 32 := Scalar.select v22 v23 v8
  let c0_i32_608 : BitVec 32 := 0#32
  let v727 : BitVec 32 := Scalar.xori v24 c0_i32_608
  let c4_i32_610 : BitVec 32 := 4#32
  let v730 : BitVec 32 := Scalar.muli v727 c4_i32_610
  let c4_i32 : BitVec 32 := 4#32
  let v3 : BitVec 32 := Scalar.remsi v2 c4_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c0_i32_606 : BitVec 32 := 0#32
  let v725 : BitVec 32 := Scalar.xori v6 c0_i32_606
  let c1_i32_2 : BitVec 32 := 1#32
  let v7 : BitVec 32 := Scalar.shrsi v5 c1_i32_2
  let c1_i32_607 : BitVec 32 := 1#32
  let v726 : BitVec 32 := Scalar.xori v7 c1_i32_607
  let c1_i32_609 : BitVec 32 := 1#32
  let v728 : BitVec 32 := Scalar.shli v726 c1_i32_609
  let v729 : BitVec 32 := Scalar.ori v725 v728
  let c1_i32_611 : BitVec 32 := 1#32
  let v731 : BitVec 32 := Scalar.shrsi v729 c1_i32_611
  let v732 : BitVec 32 := Scalar.xori v729 v731
  let v733 : BitVec 32 := Scalar.addi v730 v732
  let c1_i32_616 : BitVec 32 := 1#32
  let v734 : BitVec 32 := Scalar.muli v733 c1_i32_616
  let v735 : BitVec 32 := Scalar.addi c0_i32_617 v734
  v735.toNat
-- ==== ReferenceIdeal.lean ====
abbrev S65536x1024 : Shape := ⟨2, ![65536, 1024]⟩

abbrev nBuf : Space → Nat
  | .hbm => 2
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Cube.lean ====
/-
# The cube: devices as corners, and the pieces that travel along its edges

Eight devices sit on the corners of a cube: the low two bits of a device's number are a Gray code of its first two
coordinates, the third bit is its third coordinate. Each device's block is cut in three chunks of rows, and chunk `i`
travels along the three dimensions in the order `i, i+1, i+2`. A PIECE `(i, t)` is the `t`-th transfer of chunk `i` a
device issues: one along the first dimension, two along the second, four along the third. `flip p` says whose block the
piece carries (the coordinates to flip, seen from the sender), `land p` whose block arrives under that number (seen from
the receiver), `dim p` the dimension it travels.
-/
module

public import proofs.«01_k».proof.Proof.Gen.KernelIdeal

@[expose] public section

namespace Cert.Cube

open Cert.KernelIdeal
open Idealize.ShloMosaic

/-- A transfer: its chunk and its number among the chunk's seven. -/
abbrev P : Type := Fin 3 × Fin 7

/-- A device's corner as a bit mask, and back: the Gray code of the low two bits is its own inverse. -/
def corner (c : Fin 8) : Fin 8 := (![0, 1, 3, 2, 4, 5, 7, 6] : Fin 8 → Fin 8) c

/-- The device at the corner that differs from `c`'s in the coordinates of the mask `f`. -/
def org (f : Fin 8) (c : Dev nD) : Dev nD := corner (corner c ^^^ f)

/-- The mask of one dimension. -/
def bit (d : Fin 3) : Fin 8 := (![1, 2, 4] : Fin 3 → Fin 8) d

/-- The neighbour along dimension `d`. -/
def nbr (d : Fin 3) (c : Dev nD) : Dev nD := org (bit d) c

/-- The step (0, 1 or 2) of a chunk's journey a transfer belongs to. -/
def step (t : Fin 7) : Fin 3 := (![0, 1, 1, 2, 2, 2, 2] : Fin 7 → Fin 3) t

/-- The dimension a piece travels. -/
def dim (p : P) : Fin 3 := p.1 + step p.2

/-- The flips from the sender to the device whose block the piece carries. -/
def flip (p : P) : Fin 8 :=
  (![0, 0, bit p.1, 0, bit p.1, bit (p.1 + 1), bit p.1 ^^^ bit (p.1 + 1)] : Fin 7 → Fin 8) p.2

/-- The flips from the receiver to the device whose block the piece carries. -/
def land (p : P) : Fin 8 := flip p ^^^ bit (dim p)

/-- Where device `c` sends piece `p`. -/
def tgt (p : P) (c : Dev nD) : Dev nD := nbr (dim p) c

/-- The received piece a piece forwards; `none` when it carries the sender's own block. -/
def par (p : P) : Option P :=
  (![none, none, some (p.1, 0), none, some (p.1, 0), some (p.1, 1), some (p.1, 2)] : Fin 7 → Option P) p.2

/-- Pieces of the first step that carry the sender's own block. -/
def own (p : P) : Bool := (par p).isNone

theorem org_org (f : Fin 8) (c : Dev nD) : org f (org f c) = c := by revert f c; decide +kernel
theorem nbr_nbr (d : Fin 3) (c : Dev nD) : nbr d (nbr d c) = c := org_org _ _
theorem tgt_tgt (p : P) (c : Dev nD) : tgt p (tgt p c) = c := org_org _ _

/-- What leaves `c` as `flip p` of `c` is what arrives at the neighbour as `land p` of the neighbour. -/
theorem org_land_tgt : ∀ (p : P) (c : Dev nD), org (land p) (tgt p c) = org (flip p) c := by decide +kernel
theorem org_flip_tgt : ∀ (p : P) (c : Dev nD), org (flip p) (tgt p c) = org (land p) c := by decide +kernel

/-- A forwarded piece carries the block its parent brought. -/
theorem flip_par : ∀ p q : P, par p = some q → p.1 = q.1 ∧ flip p = land q := by decide +kernel
theorem flip_own : ∀ p : P, own p = true → flip p = 0 := by decide +kernel
theorem org_zero : ∀ c : Dev nD, org 0 c = c := by decide +kernel

/-- No piece brings a device its own block, -/
theorem org_land_ne : ∀ (p : P) (c : Dev nD), org (land p) c ≠ c := by decide +kernel
/-- two pieces of one chunk bring different blocks, -/
theorem org_land_inj : ∀ (i : Fin 3) (t t' : Fin 7) (c : Dev nD), org (land (i, t)) c = org (land (i, t')) c → t = t' := by decide +kernel
/-- and every other device's block arrives. -/
theorem org_land_surj : ∀ (i : Fin 3) (c o : Dev nD), o ≠ c → ∃ t : Fin 7, org (land (i, t)) c = o := by decide +kernel

/-- The neighbour map along one dimension, as a permutation of the devices. -/
def nbrE (d : Fin 3) : Dev nD ≃ Dev nD := ⟨nbr d, nbr d, nbr_nbr d, nbr_nbr d⟩
/-- The target map of one piece, as a permutation of the devices. -/
def tgtE (p : P) : Dev nD ≃ Dev nD := ⟨tgt p, tgt p, tgt_tgt p, tgt_tgt p⟩

/-- Pieces sorted by the dimension they travel: dimension and number determine the piece. -/
def byDim : P ≃ Fin 3 × Fin 7 where
  toFun p := (dim p, p.2)
  invFun x := (x.1 - step x.2, x.2)
  left_inv := by decide +kernel
  right_inv := by decide +kernel

/-- The piece of number `t` that travels dimension `d`. -/
def along (d : Fin 3) (t : Fin 7) : P := byDim.symm (d, t)
theorem dim_along : ∀ (d : Fin 3) (t : Fin 7), dim (along d t) = d := by decide +kernel
theorem tgt_along (d : Fin 3) (t : Fin 7) (c : Dev nD) : tgt (along d t) c = nbr d c := by rw [tgt, dim_along]

/-! ## The order in which a device acts -/

/-- One thing a device does after the barrier. -/
inductive Ev where
  /-- start loading chunk `i` of `x` -/
  | load (i : Fin 3)
  /-- wait for that load, and store the chunk's cast -/
  | stage (i : Fin 3)
  /-- send piece `p` -/
  | send (p : P)
  /-- wait for piece `p` to arrive -/
  | recv (p : P)
  /-- wait until piece `p` has left -/
  | back (p : P)
  /-- start the copy of the staged block into the result -/
  | copy
  /-- wait for that copy -/
  | done
  deriving DecidableEq

/-- What a device holds at a moment: each field lists the pieces or chunks it holds that part for. -/
@[ext] structure Conf where
  /-- pieces not sent yet -/
  unsent : Finset P
  /-- pieces under way, their source lent out -/
  fly : Finset P
  /-- pieces whose source has come back -/
  home : Finset P
  /-- pieces whose source's share is at hand -/
  src : Finset P
  /-- pieces still to arrive -/
  wait : Finset P
  /-- pieces that arrived -/
  got : Finset P
  /-- chunks not loaded yet -/
  raw : Finset (Fin 3)
  /-- chunks being loaded -/
  ldg : Finset (Fin 3)
  /-- chunks cast and stored -/
  stg : Finset (Fin 3)
  /-- chunks of the staged block whose share for the copy into the result is at hand -/
  loc : Finset (Fin 3)
  /-- the copy into the result: not started, running, finished -/
  cp : Fin 3

/-- The pieces of a chunk that carry the sender's own block. -/
def ownOf (i : Fin 3) : Finset P := {(i, 0), (i, 1), (i, 3)}
/-- The pieces that forward a received one. -/
def kids (p : P) : Finset P := Finset.univ.filter fun q => par q = some p

/-- The effect of an event on what a device holds. -/
def Conf.apply (s : Conf) : Ev → Conf
  | .load i => { s with raw := s.raw.erase i, ldg := insert i s.ldg }
  | .stage i => { s with ldg := s.ldg.erase i, stg := insert i s.stg, loc := insert i s.loc, src := s.src ∪ ownOf i }
  | .send p => { s with unsent := s.unsent.erase p, src := s.src.erase p, fly := insert p s.fly }
  | .recv p => { s with wait := s.wait.erase p, got := insert p s.got, src := s.src ∪ kids p }
  | .back p => { s with fly := s.fly.erase p, home := insert p s.home, src := insert p s.src }
  | .copy => { s with loc := ∅, cp := 1 }
  | .done => { s with loc := Finset.univ, cp := 2 }

/-- The levels of the receive waits: a piece's own-block pieces at 2, the pieces that forward a first arrival at 3,
    those that forward a second at 4. -/
def rlev (t : Fin 7) : ℕ := (![2, 2, 3, 2, 3, 4, 4] : Fin 7 → ℕ) t

/-- What an event needs of what a device holds. -/
def Conf.ok (s : Conf) : Ev → Bool
  | .load i => decide (i ∈ s.raw ∧ i ∉ s.ldg)
  | .stage i => decide (i ∈ s.ldg ∧ i ∉ s.stg ∧ i ∉ s.loc ∧ Disjoint s.src (ownOf i))
  | .send p => decide (p ∈ s.unsent ∧ p ∈ s.src ∧ p ∉ s.fly)
  | .recv p => decide (p ∈ s.wait ∧ p ∉ s.got ∧ Disjoint s.src (kids p) ∧ ∀ q ∈ s.unsent, rlev p.2 < rlev q.2)
  | .back p => decide (p ∈ s.fly ∧ p ∉ s.home ∧ p ∉ s.src ∧ s.unsent = ∅)
  | .copy => decide (s.loc = Finset.univ ∧ s.cp = 0)
  | .done => decide (s.loc = ∅ ∧ s.cp = 1 ∧ s.unsent = ∅)

/-- What a device holds when the barrier is passed. -/
def conf₀ : Conf where
  unsent := Finset.univ
  fly := ∅
  home := ∅
  src := ∅
  wait := Finset.univ
  got := ∅
  raw := Finset.univ
  ldg := ∅
  stg := ∅
  loc := ∅
  cp := 0

/-- The kernel's order. -/
def script : List Ev :=
  [.load 0, .load 1, .load 2,
   .stage 0, .send (0, 0), .send (0, 1), .send (0, 3),
   .stage 1, .send (1, 0), .send (1, 1), .send (1, 3),
   .stage 2, .send (2, 0), .send (2, 1), .send (2, 3),
   .copy,
   .recv (0, 0), .send (0, 2), .send (0, 4),
   .recv (1, 0), .send (1, 2), .send (1, 4),
   .recv (2, 0), .send (2, 2), .send (2, 4),
   .recv (0, 1), .recv (0, 2), .send (0, 5), .send (0, 6),
   .recv (1, 1), .recv (1, 2), .send (1, 5), .send (1, 6),
   .recv (2, 1), .recv (2, 2), .send (2, 5), .send (2, 6),
   .recv (0, 3), .recv (0, 4), .recv (0, 5), .recv (0, 6),
   .recv (1, 3), .recv (1, 4), .recv (1, 5), .recv (1, 6),
   .recv (2, 3), .recv (2, 4), .recv (2, 5), .recv (2, 6),
   .back (0, 0), .back (0, 1), .back (0, 3), .back (1, 0), .back (1, 1), .back (1, 3), .back (2, 0), .back (2, 1),
   .back (2, 3), .back (0, 2), .back (0, 4), .back (1, 2), .back (1, 4), .back (2, 2), .back (2, 4), .back (0, 5),
   .back (0, 6), .back (1, 5), .back (1, 6), .back (2, 5), .back (2, 6),
   .done]

/-- Whether every event of a list finds what it needs, each on what the ones before it leave. -/
def allOk : List Ev → Conf → Bool
  | [], _ => true
  | e :: es, s => s.ok e && allOk es (s.apply e)

/-- What a device holds after the first `n` events. -/
def confAt (n : ℕ) : Conf := (script.take n).foldl Conf.apply conf₀

theorem script_ok : allOk script conf₀ = true := by decide +kernel

/-- In a list whose events all find what they need, so does the `n`-th. -/
theorem ok_of_allOk : ∀ (es : List Ev) (s : Conf), allOk es s = true → ∀ (n : ℕ) (e : Ev), es[n]? = some e →
    ((es.take n).foldl Conf.apply s).ok e = true
  | [], _, _, n, e, h => by simp at h
  | a :: es, s, hs, 0, e, h => by
    simp only [List.getElem?_cons_zero, Option.some.injEq] at h
    subst h
    simp only [allOk, Bool.and_eq_true] at hs
    simpa using hs.1
  | a :: es, s, hs, n + 1, e, h => by
    simp only [allOk, Bool.and_eq_true] at hs
    simp only [List.take_succ_cons, List.foldl_cons]
    exact ok_of_allOk es _ hs.2 n e (by simpa using h)

/-- The `n`-th event of the kernel finds what it needs. -/
theorem ok_at (n : ℕ) (e : Ev) (h : script[n]? = some e) : (confAt n).ok e = true := ok_of_allOk _ _ script_ok n e h

/-- What the `n`-th event leaves is what a device holds after one more. -/
theorem confAt_succ (n : ℕ) (e : Ev) (h : script[n]? = some e) : confAt (n + 1) = (confAt n).apply e := by
  simp only [confAt, List.take_succ, h, Option.toList_some, List.foldl_append, List.foldl_cons, List.foldl_nil]

/-- After the last event every piece has arrived and every source is back. -/
theorem confAt_end : confAt 71 =
    { unsent := ∅, fly := ∅, home := Finset.univ, src := Finset.univ, wait := ∅, got := Finset.univ, raw := ∅, ldg := ∅,
      stg := Finset.univ, loc := Finset.univ, cp := 2 } := by
  apply Conf.ext <;> decide +kernel

end Cert.Cube
-- ==== Proof.Geom.lean ====
/-
# The buffers' parts and what they hold

A device's block of 8192 rows is cut in three chunks of rows (`coff`, `crow`); the result is eight blocks, each cut the
same way. This file names those parts, shows they partition the buffers, and defines what each buffer holds: `stgV c`,
the cast of device `c`'s block, and `gath`, the whole result — the same array on every device.
-/
module

public import proofs.«01_k».proof.Proof.Cube
public import Idealize.ShloMosaic.Lib.Pipeline.Kit
public import Idealize.ShloMosaic.Lib.Pipeline.ValueKit.Geometry

@[expose] public section

noncomputable section

namespace Cert.Geom

open Cert.KernelIdeal Cert.Cube
open Idealize.ShloMosaic

variable {F : FTy → Type} [FloatOps F]

/-- The first row of a chunk within a block, and its number of rows. -/
def coff (i : Fin 3) : ℕ := (![0, 2720, 5440] : Fin 3 → ℕ) i
def crow (i : Fin 3) : ℕ := (![2720, 2720, 2752] : Fin 3 → ℕ) i

theorem chunk_fit : ∀ i : Fin 3, coff i + crow i ≤ 8192 := by decide
theorem crow_pos : ∀ i : Fin 3, 0 < crow i := by decide

theorem chunk_inb (i : Fin 3) : ∀ a, (![coff i, 0] : Fin 2 → ℕ) a + (![crow i, 1024] : Fin 2 → ℕ) a ≤ S8192x1024.size a := by
  revert i; decide
theorem out_inb (i : Fin 3) (o : Dev nD) :
    ∀ a, (![8192 * o.val + coff i, 0] : Fin 2 → ℕ) a + (![crow i, 1024] : Fin 2 → ℕ) a ≤ S65536x1024.size a := by
  revert i o; decide
theorem own_inb (o : Dev nD) : ∀ a, (![8192 * o.val, 0] : Fin 2 → ℕ) a + S8192x1024.size a ≤ S65536x1024.size a := by
  revert o; decide

/-- Chunk `i` of a block-sized buffer; chunk `i` of device `o`'s block in the result; the whole of `o`'s block in it. -/
abbrev chunkRect (i : Fin 3) : Rect S8192x1024 := Rect.unit (s := S8192x1024) ![coff i, 0] ![crow i, 1024] (chunk_inb i)
abbrev outRect (i : Fin 3) (o : Dev nD) : Rect S65536x1024 :=
  Rect.unit (s := S65536x1024) ![8192 * o.val + coff i, 0] ![crow i, 1024] (out_inb i o)
abbrev ownRect (o : Dev nD) : Rect S65536x1024 := Rect.unit (s := S65536x1024) ![8192 * o.val, 0] S8192x1024.size (own_inb o)

theorem mem_chunk (i : Fin 3) (j : S8192x1024.Idx) : j ∈ (chunkRect i).set ↔ coff i ≤ (j 0).val ∧ (j 0).val < coff i + crow i := by
  have h1 := (j 1).isLt
  simp only [Rect.mem_set_unit, Fin.forall_fin_two]
  simp [Matrix.cons_val_zero, Matrix.cons_val_one] at h1 ⊢
  omega
theorem mem_out (i : Fin 3) (o : Dev nD) (j : S65536x1024.Idx) :
    j ∈ (outRect i o).set ↔ 8192 * o.val + coff i ≤ (j 0).val ∧ (j 0).val < 8192 * o.val + coff i + crow i := by
  have h1 := (j 1).isLt
  simp only [Rect.mem_set_unit, Fin.forall_fin_two]
  simp [Matrix.cons_val_zero, Matrix.cons_val_one] at h1 ⊢
  omega
theorem mem_own (o : Dev nD) (j : S65536x1024.Idx) :
    j ∈ (ownRect o).set ↔ 8192 * o.val ≤ (j 0).val ∧ (j 0).val < 8192 * o.val + 8192 := by
  have h1 := (j 1).isLt
  simp only [Rect.mem_set_unit, Fin.forall_fin_two]
  simp [Matrix.cons_val_zero, Matrix.cons_val_one] at h1 ⊢
  omega

/-- The three chunks, spelled out. -/
theorem chunk_cases (i : Fin 3) : (coff i = 0 ∧ crow i = 2720 ∧ i = 0) ∨ (coff i = 2720 ∧ crow i = 2720 ∧ i = 1) ∨ (coff i = 5440 ∧ crow i = 2752 ∧ i = 2) := by
  revert i; decide

theorem chunk_disjoint (i i' : Fin 3) (h : i ≠ i') : Disjoint (chunkRect i).set (chunkRect i').set := by
  rw [Finset.disjoint_left]; intro j h1 h2
  rw [mem_chunk] at h1 h2
  apply h
  rcases chunk_cases i with ⟨a, b, e⟩ | ⟨a, b, e⟩ | ⟨a, b, e⟩ <;> rcases chunk_cases i' with ⟨a', b', e'⟩ | ⟨a', b', e'⟩ | ⟨a', b', e'⟩ <;>
    first | exact e.trans e'.symm | (exfalso; omega)

theorem chunk_cover : (Finset.univ : Finset (Fin 3)).biUnion (fun i => (chunkRect i).set) = Finset.univ := by
  ext j
  simp only [Finset.mem_biUnion, Finset.mem_univ, true_and, iff_true]
  have h0 : (j 0).val < 8192 := (j 0).isLt
  by_cases h1 : (j 0).val < 2720
  · exact ⟨0, (mem_chunk 0 j).mpr (by simp [coff, crow]; omega)⟩
  by_cases h2 : (j 0).val < 5440
  · exact ⟨1, (mem_chunk 1 j).mpr (by simp [coff, crow]; omega)⟩
  · exact ⟨2, (mem_chunk 2 j).mpr (by simp [coff, crow]; omega)⟩

theorem out_disjoint (i i' : Fin 3) (o o' : Dev nD) (h : i ≠ i' ∨ o ≠ o') : Disjoint (outRect i o).set (outRect i' o').set := by
  rw [Finset.disjoint_left]; intro j h1 h2
  rw [mem_out] at h1 h2
  have hi : i = i' := by
    rcases chunk_cases i with ⟨a, b, e⟩ | ⟨a, b, e⟩ | ⟨a, b, e⟩ <;> rcases chunk_cases i' with ⟨a', b', e'⟩ | ⟨a', b', e'⟩ | ⟨a', b', e'⟩ <;>
      first | exact e.trans e'.symm | (exfalso; omega)
  have ho : o = o' := Fin.ext (by have := chunk_fit i; have := chunk_fit i'; omega)
  rcases h with h | h
  · exact h hi
  · exact h ho

/-- The chunk a piece carries, where it lands on device `c`. -/
abbrev landSet (c : Dev nD) (p : P) : Finset S65536x1024.Idx := (outRect p.1 (org (land p) c)).set

theorem land_disjoint (c : Dev nD) (p p' : P) (h : p ≠ p') : Disjoint (landSet c p) (landSet c p') := by
  by_cases hi : p.1 = p'.1
  · refine out_disjoint _ _ _ _ (.inr fun ho => h (Prod.ext hi ?_))
    obtain ⟨i, t⟩ := p; obtain ⟨i', t'⟩ := p'
    simp only at hi; subst hi
    exact org_land_inj i t t' c ho
  · exact out_disjoint _ _ _ _ (.inl hi)

/-- The rows of its own block and the rows where pieces land are all the rows a device's result has. -/
theorem own_land_disjoint (c : Dev nD) : Disjoint (ownRect c).set ((Finset.univ : Finset P).biUnion (landSet c)) := by
  rw [Finset.disjoint_biUnion_right]
  intro p _
  rw [Finset.disjoint_left]; intro j h1 h2
  rw [mem_own] at h1
  rw [mem_out] at h2
  exact org_land_ne p c (Fin.ext (by have := chunk_fit p.1; omega))

theorem own_land_cover (c : Dev nD) : (ownRect c).set ∪ (Finset.univ : Finset P).biUnion (landSet c) = Finset.univ := by
  ext j
  simp only [Finset.mem_union, Finset.mem_biUnion, Finset.mem_univ, true_and, iff_true]
  have h0 : (j 0).val < 65536 := (j 0).isLt
  by_cases hc : (j 0).val / 8192 = c.val
  · exact .inl ((mem_own c j).mpr (by omega))
  refine .inr ?_
  have hlt : (j 0).val / 8192 < 8 := by omega
  have hne : (⟨(j 0).val / 8192, hlt⟩ : Dev nD) ≠ c := fun h => hc (congrArg Fin.val h)
  have key (i : Fin 3) (h : coff i ≤ (j 0).val % 8192 ∧ (j 0).val % 8192 < coff i + crow i) : ∃ p : P, j ∈ landSet c p := by
    obtain ⟨t, ht⟩ := org_land_surj i c _ hne
    refine ⟨(i, t), (mem_out _ _ j).mpr ?_⟩
    rw [ht]
    simp only
    omega
  by_cases h1 : (j 0).val % 8192 < 2720
  · exact key 0 (by simp [coff, crow]; omega)
  by_cases h2 : (j 0).val % 8192 < 5440
  · exact key 1 (by simp [coff, crow]; omega)
  · exact key 2 (by simp [coff, crow]; omega)

/-! ## Contents -/

theorem size_pos (a : Fin 2) : 0 < S8192x1024.size a := by revert a; decide

/-- The device whose block a row of the result is in, and the place in that block. -/
def blk (j : S65536x1024.Idx) : Dev nD := ⟨(j 0).val / 8192, by have : (j 0).val < 65536 := (j 0).isLt; show _ < 8; omega⟩
def within (j : S65536x1024.Idx) : S8192x1024.Idx := fun a => ⟨(j a).val % S8192x1024.size a, Nat.mod_lt _ (size_pos a)⟩

variable (X : Dev nD → S8192x1024.Idx → F .f32)

/-- The cast of device `c`'s block. -/
def stgV (c : Dev nD) (j : S8192x1024.Idx) : F .bf16 := FloatOps.truncf .bf16 Gen.bitsLt_bf16_f32 (X c j)
/-- The gathered array. -/
def gath (j : S65536x1024.Idx) : F .bf16 := stgV X (blk j) (within j)

/-- The result at row `8192 * o + r`, `r` a row of a block, is the cast of row `r` of `o`'s block. -/
theorem gath_at (o : Dev nD) (j : S65536x1024.Idx) (k : S8192x1024.Idx) (h0 : (j 0).val = 8192 * o.val + (k 0).val) (h1 : (j 1).val = (k 1).val) :
    gath X j = stgV X o k := by
  have hk0 : (k 0).val < 8192 := (k 0).isLt
  have hk1 : (k 1).val < 1024 := (k 1).isLt
  have hb : blk j = o := Fin.ext (by show (j 0).val / 8192 = o.val; omega)
  have hw : within j = k := funext fun a => Fin.ext (by
    revert a; rw [Fin.forall_fin_two]
    constructor
    · show (j 0).val % 8192 = (k 0).val; omega
    · show (j 1).val % 1024 = (k 1).val; omega)
  unfold gath
  rw [hb, hw]

end Cert.Geom
-- ==== Proof.Views.lean ====
/-
# The kernel's views and what a transfer leaves

The memrefs the kernel's transfers name, each a rectangle of a whole buffer, and what each kind of transfer writes: the
destination's elements agree with the array the schedule promises there.
-/
module

public import proofs.«01_k».proof.Proof.Geom
public import Idealize.ShloMosaic.Lib.Pipeline.Value

@[expose] public section

noncomputable section

namespace Cert.Views

open Cert.KernelIdeal Cert.Cube Cert.Geom
open Idealize.ShloMosaic
open Idealize.ShloMosaic.TcCoe
open Idealize.ShloMosaic.ValueKit (view_emb_slice_whole_unit_val)

variable {F : FTy → Type} [FloatOps F]

/-- The device's block of `x`, the result, the landing buffer of `x`, the staged cast. -/
abbrev xH : Memref sig .tc .hbm S8192x1024 .f32 := Memref.whole main_arg0
abbrev oH : Memref sig .tc .hbm S65536x1024 .bf16 := Memref.whole main_v1
abbrev xV : Memref sig .tc .vmem S8192x1024 .f32 := Memref.whole cc0_scratch0
abbrev sV : Memref sig .tc .vmem S8192x1024 .bf16 := Memref.whole cc0_scratch1

/-- Their parts. -/
abbrev outM (i : Fin 3) (o : Dev nD) : Memref sig .tc .hbm ⟨2, ![crow i, 1024]⟩ .bf16 := oH.slice (outRect i o) (fun _ => rfl)
abbrev ownM (o : Dev nD) : Memref sig .tc .hbm S8192x1024 .bf16 := oH.slice (ownRect o) (fun _ => rfl)
abbrev xHM (i : Fin 3) : Memref sig .tc .hbm ⟨2, ![crow i, 1024]⟩ .f32 := xH.slice (chunkRect i) (fun _ => rfl)
abbrev xVM (i : Fin 3) : Memref sig .tc .vmem ⟨2, ![crow i, 1024]⟩ .f32 := xV.slice (chunkRect i) (fun _ => rfl)
abbrev sVM (i : Fin 3) : Memref sig .tc .vmem ⟨2, ![crow i, 1024]⟩ .bf16 := sV.slice (chunkRect i) (fun _ => rfl)

theorem set_outM (i : Fin 3) (o : Dev nD) : (outM i o).view.set = (outRect i o).set := View.set_slice_whole _ _
theorem set_ownM (o : Dev nD) : (ownM o).view.set = (ownRect o).set := View.set_slice_whole _ _
theorem set_xHM (i : Fin 3) : (xHM i).view.set = (chunkRect i).set := View.set_slice_whole _ _
theorem set_xVM (i : Fin 3) : (xVM i).view.set = (chunkRect i).set := View.set_slice_whole _ _
theorem set_sVM (i : Fin 3) : (sVM i).view.set = (chunkRect i).set := View.set_slice_whole _ _

/-- A whole write through a view leaves, on the view's elements, any array that agrees with what was written. -/
theorem write_agree {sp : Space} {s : Shape} {e : EltTy} (v : View sig .tc sp s e) (f g : v.ty.Contents (Elt F)) (w : s.Idx → Elt F e)
    (h : ∀ x, cast (congrArg (Elt F) v.elt_eq.symm) (w x) = g (v.emb x)) :
    ∀ j ∈ v.set, v.write (Elt F) f w Finset.univ j = g j := by
  intro j hj
  obtain ⟨x, rfl⟩ := View.exists_emb_of_mem_set v hj
  rw [View.write_emb_of_mem _ _ (Finset.mem_univ x), h]

variable (X : Dev nD → S8192x1024.Idx → F .f32)

/-- A chunk of `x` loaded. -/
theorem load_agree (i : Fin 3) (c : Dev nD) (f : (xVM i).view.ty.Contents (Elt F)) :
    ∀ j ∈ (xVM i).view.set, (xVM i).view.write (Elt F) f ((xHM i).view.read (Elt F) (X c)) Finset.univ j = X c j :=
  write_agree (xVM i).view f (X c) _ fun x => rfl

/-- A chunk of the staged cast sent to its place in the result. -/
theorem own_agree (i : Fin 3) (c : Dev nD) (f : (outM i c).view.ty.Contents (Elt F)) :
    ∀ j ∈ (outM i c).view.set, (outM i c).view.write (Elt F) f ((sVM i).view.read (Elt F) (stgV X c)) Finset.univ j = gath X j :=
  write_agree (outM i c).view f (gath X) _ fun x => by
    refine (gath_at X c _ ((sVM i).view.emb x) ?_ ?_).symm
    · rw [view_emb_slice_whole_unit_val, view_emb_slice_whole_unit_val]
      simp [Matrix.cons_val_zero]; omega
    · rw [view_emb_slice_whole_unit_val, view_emb_slice_whole_unit_val]
      simp

/-- A piece of the result forwarded to the same place. -/
theorem fwd_agree (i : Fin 3) (o : Dev nD) (f : (outM i o).view.ty.Contents (Elt F)) :
    ∀ j ∈ (outM i o).view.set, (outM i o).view.write (Elt F) f ((outM i o).view.read (Elt F) (gath X)) Finset.univ j = gath X j :=
  write_agree (outM i o).view f (gath X) _ fun x => rfl

/-- The staged cast copied to the device's own place in the result. -/
theorem copy_agree (c : Dev nD) (f : (ownM c).view.ty.Contents (Elt F)) :
    ∀ j ∈ (ownM c).view.set, (ownM c).view.write (Elt F) f (sV.view.read (Elt F) (stgV X c)) Finset.univ j = gath X j :=
  write_agree (ownM c).view f (gath X) _ fun x => by
    refine (gath_at X c _ x ?_ ?_).symm
    · rw [view_emb_slice_whole_unit_val]; rfl
    · rw [view_emb_slice_whole_unit_val]; simp

/-- The cast of a loaded chunk stored in the staging buffer. -/
theorem store_agree (i : Fin 3) (c : Dev nD) (f : (sV.access (chunkRect i)).ty.Contents (Elt F)) :
    ∀ j ∈ (sV.access (chunkRect i)).set, (sV.access (chunkRect i)).write (Elt F) f
      (fun x => FloatOps.truncf .bf16 Gen.bitsLt_bf16_f32 (xV.view.readAt (Elt F) (chunkRect i).toLoadRect (X c) x)) Finset.univ j = stgV X c j :=
  write_agree (sV.access (chunkRect i)) f (stgV X c) _ fun x => rfl

end Cert.Views
-- ==== Proof.Sched.lean ====
/-
# The protocol

Every semaphore a device uses is a cell of a schedule of one round. A device's barrier cell has three duties, one per
neighbour: the neighbour along dimension `d` pays one unit and hands over the right to write the places of its result
where the pieces travelling dimension `d` land. Every transfer semaphore has one duty, paid by the transfer: a load cell
returns the chunk of `x` and the loaded copy, a send cell the source's share, a receive cell the landed piece, the copy
cell the device's own block in the result and the staged cast's share.
-/
module

public import proofs.«01_k».proof.Proof.Views
public import proofs.«01_k».proof.Proof.Gen.KernelIdeal.Skeleton
public import proofs.«01_k».proof.Proof.Gen.KernelIdeal.Launch
public import Idealize.ShloMosaic.Lib.Pipeline.Launch
public import Idealize.ShloMosaic.Lib.Tactic

@[expose] public section

noncomputable section

namespace Cert.Sched

open Cert.KernelIdeal Cert.KernelIdeal.Gen Cert.Cube Cert.Geom Cert.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The algebra: the pipeline library's rounds beside this protocol's, whose duties are named by dimension. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The semaphores -/

/-- The transfer semaphores by what they are for: the three loads and the copy; the pieces' sends and receives. -/
abbrev Kd : Type := (Fin 3 ⊕ Unit) ⊕ (P ⊕ P)

set_option backward.proofsInPublic true in
def semOf : Kd → DmaSem sig
  | .inl (.inl i) => ⟨i.val, by show _ < 46; omega⟩
  | .inl (.inr _) => ⟨3, by show _ < 46; omega⟩
  | .inr (.inl p) => ⟨4 + 7 * p.1.val + p.2.val, by show _ < 46; omega⟩
  | .inr (.inr p) => ⟨25 + 7 * p.1.val + p.2.val, by show _ < 46; omega⟩

set_option backward.proofsInPublic true in
def kindOf (s : DmaSem sig) : Kd :=
  if h : s.val < 3 then .inl (.inl ⟨s.val, h⟩)
  else if s.val < 4 then .inl (.inr ())
  else if h : s.val < 25 then .inr (.inl (⟨(s.val - 4) / 7, by omega⟩, ⟨(s.val - 4) % 7, by omega⟩))
  else .inr (.inr (⟨(s.val - 25) / 7, by have : s.val < 46 := s.isLt; omega⟩, ⟨(s.val - 25) % 7, by omega⟩))

theorem kind_sem : ∀ k : Kd, kindOf (semOf k) = k := by decide +kernel
theorem sem_kind : ∀ s : DmaSem sig, semOf (kindOf s) = s := by decide +kernel
def kdE : DmaSem sig ≃ Kd := ⟨kindOf, semOf, sem_kind, kind_sem⟩

abbrev barS : Sem sig := (SemArray.scalar (sig.barrier 0 rfl) : Sems sig S_).sem

abbrev barCell (c : Dev nD) : GSem nD τ sig := ((c : Thread nD τ), .reg barS)
abbrev dmaCell (c : Dev nD) (k : Kd) : GSem nD τ sig := ((c : Thread nD τ), .dma (semOf k))
abbrev loadCell (c : Dev nD) (i : Fin 3) : GSem nD τ sig := dmaCell c (.inl (.inl i))
abbrev copyCell (c : Dev nD) : GSem nD τ sig := dmaCell c (.inl (.inr ()))
abbrev sendCell (c : Dev nD) (p : P) : GSem nD τ sig := dmaCell c (.inr (.inl p))
abbrev recvCell (c : Dev nD) (p : P) : GSem nD τ sig := dmaCell c (.inr (.inr p))

/-- What the transfers credit: a piece of the result, a chunk of `x`, the device's own block. -/
def nOut (i : Fin 3) : ℕ := (outM i 0).view.dmaCredit
def nLoad (i : Fin 3) : ℕ := (xVM i).view.dmaCredit
def nOwn : ℕ := (ownM 0).view.dmaCredit

theorem credit_outM (i : Fin 3) (o : Dev nD) : (outM i o).view.dmaCredit = nOut i := rfl
theorem credit_ownM (o : Dev nD) : (ownM o).view.dmaCredit = nOwn := rfl

theorem nOut_pos (i : Fin 3) : 0 < nOut i := View.dmaCredit_pos _ (by revert i; decide)
theorem nLoad_pos (i : Fin 3) : 0 < nLoad i := View.dmaCredit_pos _ (by revert i; decide)
theorem nOwn_pos : 0 < nOwn := View.dmaCredit_pos _ (by decide)

def amt : Kd → ℕ
  | .inl (.inl i) => nLoad i
  | .inl (.inr _) => nOwn
  | .inr (.inl p) => nOut p.1
  | .inr (.inr p) => nOut p.1

theorem amt_pos : ∀ k : Kd, 0 < amt k
  | .inl (.inl i) => nLoad_pos i
  | .inl (.inr _) => nOwn_pos
  | .inr (.inl p) => nOut_pos p.1
  | .inr (.inr p) => nOut_pos p.1

/-! ## What is held -/

variable (m : (ℓ : Loc nD τ sig) → Buf (Elt F) ℓ) (ρ : Dev nD → PrngReg)

/-- The memory at launch: arbitrary contents, every semaphore zero, arbitrary generator registers. -/
abbrev s₀ : MemSt nD τ sig (Elt F) := ⟨m, fun _ => 0, ρ⟩

/-- Device `c`'s block of `x`. -/
abbrev X (c : Dev nD) : S8192x1024.Idx → F .f32 := m ((c : Thread nD τ).loc main_arg0)

abbrev stgB (c : Dev nD) : Buf (Elt F) ((c : Thread nD τ).loc cc0_scratch1) := stgV (X m) c
abbrev gathB (c : Dev nD) : Buf (Elt F) ((c : Thread nD τ).loc main_v1) := gath (X m)

/-- Elements of the result on device `c`; of the staged cast; of the block of `x`; of its landing buffer. -/
def oAt (c : Dev nD) (S : Finset S65536x1024.Idx) (q : PosShare TreeShare) (f : Buf (Elt F) ((c : Thread nD τ).loc main_v1)) : sProp 𝕄 :=
  iprop(((c : Thread nD τ).loc main_v1) ↦[S]{q} f)
def sAt (c : Dev nD) (S : Finset S8192x1024.Idx) (q : PosShare TreeShare) (f : Buf (Elt F) ((c : Thread nD τ).loc cc0_scratch1)) : sProp 𝕄 :=
  iprop(((c : Thread nD τ).loc cc0_scratch1) ↦[S]{q} f)
def xAt (c : Dev nD) (S : Finset S8192x1024.Idx) (q : PosShare TreeShare) (f : Buf (Elt F) ((c : Thread nD τ).loc main_arg0)) : sProp 𝕄 :=
  iprop(((c : Thread nD τ).loc main_arg0) ↦[S]{q} f)
def vAt (c : Dev nD) (S : Finset S8192x1024.Idx) (q : PosShare TreeShare) (f : Buf (Elt F) ((c : Thread nD τ).loc cc0_scratch0)) : sProp 𝕄 :=
  iprop(((c : Thread nD τ).loc cc0_scratch0) ↦[S]{q} f)

omit [FloatOps F] in
instance oAt_storable (c : Dev nD) (S q f) : BI.Storable (upEmb : UEmb _ 𝕄) (oAt (F := F) c S q f) := by unfold oAt; infer_instance
omit [FloatOps F] in
instance sAt_storable (c : Dev nD) (S q f) : BI.Storable (upEmb : UEmb _ 𝕄) (sAt (F := F) c S q f) := by unfold sAt; infer_instance
omit [FloatOps F] in
instance xAt_storable (c : Dev nD) (S q f) : BI.Storable (upEmb : UEmb _ 𝕄) (xAt (F := F) c S q f) := by unfold xAt; infer_instance
omit [FloatOps F] in
instance vAt_storable (c : Dev nD) (S q f) : BI.Storable (upEmb : UEmb _ 𝕄) (vAt (F := F) c S q f) := by unfold vAt; infer_instance

/-- The share of its source a piece borrows: a quarter of a staged chunk each for the three pieces that carry the
    sender's own, a half of the first arrival each for its two forwards, the whole of a second-step arrival for its
    one. The fourth quarter of a staged chunk is for the copy into the result. -/
def qSrc (t : Fin 7) : PosShare TreeShare :=
  (![fullShare.left.left, fullShare.left.right, fullShare.left, fullShare.right.left, fullShare.right, fullShare, fullShare] : Fin 7 → PosShare TreeShare) t
def qLoc : PosShare TreeShare := fullShare.right.right

/-- The source of piece `p` on device `c`, at the share it borrows. -/
def srcR (c : Dev nD) (p : P) : sProp 𝕄 :=
  if own p then sAt c (chunkRect p.1).set (qSrc p.2) (stgB m c) else oAt c (outRect p.1 (org (flip p) c)).set (qSrc p.2) (gathB m c)
/-- Piece `p` landed on device `c`. -/
def landR (c : Dev nD) (p : P) : sProp 𝕄 := oAt c (landSet c p) fullShare (gathB m c)
/-- The right to write where piece `p` lands on device `c`. -/
def spotR (c : Dev nD) (p : P) : sProp 𝕄 := iprop(∃ f, oAt (F := F) c (landSet c p) fullShare f)
/-- A loaded chunk with its source. -/
def loadR (c : Dev nD) (i : Fin 3) : sProp 𝕄 :=
  iprop(xAt c (chunkRect i).set fullShare (X m c) ∗ vAt c (chunkRect i).set fullShare (X m c))
/-- The own block in the result, with the staged cast's share. -/
def copyR (c : Dev nD) : sProp 𝕄 := iprop(oAt c (ownRect c).set fullShare (gathB m c) ∗ sAt c Finset.univ qLoc (stgB m c))

/-- What the neighbour along dimension `d` hands device `c` with its signal. -/
def barPay (c : Dev nD) (d : Fin 3) : sProp 𝕄 := bigSep Finset.univ fun t : Fin 7 => spotR (F := F) (nbr d c) (along d t)

def dmaPay (c : Dev nD) : Kd → sProp 𝕄
  | .inl (.inl i) => loadR m c i
  | .inl (.inr _) => copyR m c
  | .inr (.inl p) => srcR m c p
  | .inr (.inr p) => landR m c p

omit [FloatOps F] in
instance spotR_storable (c : Dev nD) (p : P) : BI.Storable (upEmb : UEmb _ 𝕄) (spotR (F := F) c p) := by unfold spotR; infer_instance
omit [FloatOps F] in
instance barPay_storable (c : Dev nD) (d : Fin 3) : BI.Storable (upEmb : UEmb _ 𝕄) (barPay (F := F) c d) := by unfold barPay; infer_instance
instance srcR_storable (c : Dev nD) (p : P) : BI.Storable (upEmb : UEmb _ 𝕄) (srcR m c p) := by unfold srcR; split <;> infer_instance
instance landR_storable (c : Dev nD) (p : P) : BI.Storable (upEmb : UEmb _ 𝕄) (landR m c p) := by unfold landR; infer_instance
instance loadR_storable (c : Dev nD) (i : Fin 3) : BI.Storable (upEmb : UEmb _ 𝕄) (loadR m c i) := by unfold loadR; infer_instance
instance copyR_storable (c : Dev nD) : BI.Storable (upEmb : UEmb _ 𝕄) (copyR m c) := by unfold copyR; infer_instance
instance dmaPay_storable (c : Dev nD) : (k : Kd) → BI.Storable (upEmb : UEmb _ 𝕄) (dmaPay m c k)
  | .inl (.inl i) => loadR_storable m c i
  | .inl (.inr _) => copyR_storable m c
  | .inr (.inl p) => srcR_storable m c p
  | .inr (.inr p) => landR_storable m c p

/-! ## The schedule -/

def rd : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma s => amt (kindOf s)
  payload g _ d := match g.2 with | .reg _ => barPay g.1.1 d | .dma s => dmaPay m g.1.1 (kindOf s)
  amount_pos g _ _ _ := by
    cases g.2 with
    | reg _ => exact Nat.one_pos
    | dma s => exact amt_pos _

instance rd_payload_storable (g : GSem nD τ sig) (r : ℕ) (d : Fin 3) :
    BI.Storable (upEmb : UEmb _ 𝕄) ((rd (F := F) m).payload g r d) := by
  dsimp only [rd]
  split <;> infer_instance

section Facts
variable (c : Dev nD) (k : Kd) (d : Fin 3)

theorem duties_bar : (rd (F := F) m).duties (barCell c) 0 = Finset.univ := by
  dsimp only [rd]; exact if_pos ⟨rfl, rfl⟩
theorem duties_dma : (rd (F := F) m).duties (dmaCell c k) 0 = {0} := by
  dsimp only [rd]; exact if_pos ⟨rfl, rfl⟩
theorem duties_later (g : GSem nD τ sig) : ∀ r, 1 ≤ r → (rd (F := F) m).duties g r = ∅ :=
  fun r hr => by dsimp only [rd]; exact if_neg fun h => by omega
theorem amount_bar : (rd (F := F) m).amount (barCell c) 0 d = 1 := rfl
theorem amount_dma : (rd (F := F) m).amount (dmaCell c k) 0 d = amt k := congrArg amt (kind_sem k)
theorem payload_bar : (rd (F := F) m).payload (barCell c) 0 d = barPay c d := rfl
theorem payload_dma : (rd (F := F) m).payload (dmaCell c k) 0 d = dmaPay m c k := congrArg (dmaPay m c) (kind_sem k)

theorem expect_bar : (rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_dma : (rd (F := F) m).expect (dmaCell c k) 0 = amt k := by
  unfold Schedule.expect Schedule.amountOf; rw [duties_dma, Finset.sum_singleton, amount_dma]

/-- All that a barrier wait hands over. -/
theorem rest_bar : bigSep ((rd (F := F) m).duties (barCell c) 0 \ ∅) (fun d => (rd (F := F) m).payload (barCell c) 0 d)
    = bigSep Finset.univ fun d => barPay (F := F) c d := by
  rw [Finset.sdiff_empty, duties_bar]; rfl
/-- All that a transfer wait hands over. -/
theorem rest_dma : bigSep ((rd (F := F) m).duties (dmaCell c k) 0 \ ∅) (fun d => (rd (F := F) m).payload (dmaCell c k) 0 d) = dmaPay m c k := by
  rw [Finset.sdiff_empty, duties_dma, bigSep_singleton, payload_dma]
end Facts

/-! ## What is owed, and the order of the waits -/

/-- The credit device `c` owes for the pieces of `S`. -/
def due (c : Dev nD) (S : Finset P) : CellTallies nD τ sig Unit := ∑ p ∈ S, tallyAt (recvCell (tgt p c) p) () (nOut p.1)
/-- What it owes the barrier cells of the neighbours along the dimensions of `D`. -/
def barDue (c : Dev nD) (D : Finset (Fin 3)) : CellTallies nD τ sig Unit := ∑ d ∈ D, tallyAt (barCell (nbr d c)) () 1

def L (g : GSem nD τ sig) : Finset Unit := if g.1.2 = .tc then {()} else ∅
/-- Barrier cells at 1; receive cells at their piece's level; the rest at 0. -/
def lv (g : GSem nD τ sig) (_ : Unit) : ℕ :=
  match g.2 with
  | .reg _ => 1
  | .dma s => match kindOf s with
    | .inr (.inr p) => rlev p.2
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (p : P) : lv (recvCell c p) () = rlev p.2 := by
  show (match kindOf (semOf (.inr (.inr p))) with | .inr (.inr p) => rlev p.2 | _ => 0) = rlev p.2
  rw [kind_sem]

theorem rlev_gt : ∀ t : Fin 7, 1 < rlev t := by decide

/-- Who is owed. -/
theorem due_pos {c : Dev nD} {S : Finset P} {g : GSem nD τ sig} {u : Unit} (h : 0 < due c S g u) : ∃ p ∈ S, g = recvCell (tgt p c) p := by
  by_contra hn
  refine absurd h (Nat.not_lt.mpr (Nat.le_of_eq ?_))
  unfold due
  rw [Finset.sum_apply, Finsupp.finsetSum_apply]
  refine Finset.sum_eq_zero fun p hp => ?_
  rw [tallyAt_apply, if_neg fun h' => hn ⟨p, hp, h'.1⟩]
theorem barDue_pos {c : Dev nD} {D : Finset (Fin 3)} {g : GSem nD τ sig} {u : Unit} (h : 0 < barDue c D g u) : ∃ d ∈ D, g = barCell (nbr d c) := by
  by_contra hn
  refine absurd h (Nat.not_lt.mpr (Nat.le_of_eq ?_))
  unfold barDue
  rw [Finset.sum_apply, Finsupp.finsetSum_apply]
  refine Finset.sum_eq_zero fun p hp => ?_
  rw [tallyAt_apply, if_neg fun h' => hn ⟨p, hp, h'.1⟩]

omit [FloatOps F] in
/-- A wait on a cell below every piece still owed. -/
theorem mayWait_due (c : Dev nD) (sm : SemLoc sig) (S : Finset P) (h : ∀ q ∈ S, lv ((c : Thread nD τ), sm) () < rlev q.2) :
    (levAts L lv : sProp 𝕄) ⊢ MayWait (c : Thread nD τ) sm () (due c S) := by
  refine MayOwe.of_cut (L := L) (lev := lv) (lv ((c : Thread nD τ), sm) ())
    (fun p hp => by rw [Finset.mem_singleton.mp hp, L_tc]; exact Finset.mem_singleton_self _)
    (fun g u hg => by obtain ⟨q, _, rfl⟩ := due_pos hg; rw [L_tc]; exact Finset.mem_singleton_self _)
    (fun p hp => by rw [Finset.mem_singleton.mp hp])
    (fun g u hg => by obtain ⟨q, hq, rfl⟩ := due_pos hg; rw [lv_recv]; exact h q hq)

end Cert.Sched
-- ==== Proof.State.lean ====
/-
# What a device holds between two of its actions

`St c s` is what device `c` holds in the configuration `s` (`Cube.Conf`): the shared records, what it owes, and one
resource for every piece and chunk, according to the lists of `s`.
-/
module

public import proofs.«01_k».proof.Proof.Sched

@[expose] public section

noncomputable section

namespace Cert.State

open Cert.KernelIdeal Cert.KernelIdeal.Gen Cert.Cube Cert.Geom Cert.Views Cert.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × SemLoc sig → ℕ)

/-- An entailment under the notation the proof mode reads. -/
theorem ent {A B : sProp 𝕄} (h : Idealize.SL.BI.Entails A B) : A ⊢ B := h
theorem ent' {A B : sProp 𝕄} (h : A ⊢ B) : Idealize.SL.BI.Entails A B := h
/-- Equal resources entail one another. -/
theorem eqv {A B : sProp 𝕄} (h : A = B) : A ⊢ B := by rw [h]

/-- One resource of a list taken out, or put in; two lists put together. -/
theorem take {ι : Type} [DecidableEq ι] {S : Finset ι} {i : ι} (Φ : ι → sProp 𝕄) (h : i ∈ S) : bigSep S Φ ⊢ iprop(Φ i ∗ bigSep (S.erase i) Φ) :=
  eqv (bigSep_erase h)
theorem put {ι : Type} [DecidableEq ι] {S : Finset ι} {i : ι} (Φ : ι → sProp 𝕄) (h : i ∉ S) : iprop(Φ i ∗ bigSep S Φ) ⊢ bigSep (insert i S) Φ :=
  eqv (bigSep_insert h).symm
theorem join {ι : Type} [DecidableEq ι] {S T : Finset ι} (Φ : ι → sProp 𝕄) (h : Disjoint S T) : iprop(bigSep S Φ ∗ bigSep T Φ) ⊢ bigSep (S ∪ T) Φ :=
  eqv (bigSep_union h).symm

/-- A device's semaphore as a cell. -/
abbrev kcell (ck : Dev nD × SemLoc sig) : GSem nD τ sig := ((ck.1 : Thread nD τ), ck.2)

/-- Every cell's invariant, under the names `K`, and that its only round has begun. -/
def records : sProp 𝕄 :=
  iprop((bigSep Finset.univ fun ck : Dev nD × SemLoc sig => cellInv ER (rd m) (K ck) (kcell ck))
    ∗ bigSep Finset.univ fun ck : Dev nD × SemLoc sig => reached ER (kcell ck) 0)

instance records_persistent : BI.Persistent (records m K) := by unfold records; infer_instance

theorem inv_at (c : Dev nD) (sm : SemLoc sig) : records m K ⊢ cellInv ER (rd m) (K (c, sm)) ((c : Thread nD τ), sm) := by
  unfold records
  iintro ⟨H, -⟩
  iapply (ent (bigSep_elim (Φ := fun ck : Dev nD × SemLoc sig => cellInv ER (rd m) (K ck) (kcell ck)) (Finset.mem_univ (c, sm))))
  iexact H
theorem reached_at (c : Dev nD) (sm : SemLoc sig) : records m K ⊢ reached ER ((c : Thread nD τ), sm) 0 := by
  unfold records
  iintro ⟨-, H⟩
  iapply (ent (bigSep_elim (Φ := fun ck : Dev nD × SemLoc sig => (reached ER (kcell ck) 0 : sProp 𝕄)) (Finset.mem_univ (c, sm))))
  iexact H

variable (c : Dev nD)

/-- A piece not sent: the right to write its place on the neighbour, the two duties it pays, the position on its send cell. -/
def unsentR (p : P) : sProp 𝕄 :=
  iprop(spotR (F := F) (tgt p c) p ∗ dutyTok ER (sendCell c p) 0 0 ∗ dutyTok ER (recvCell (tgt p c) p) 0 0 ∗ atPos ER (sendCell c p) 0 ∅ 0)
/-- A piece under way. -/
def flyR (p : P) : sProp 𝕄 := iprop(cred (tallyAt (sendCell c p) () (nOut p.1)) ∗ atPos ER (sendCell c p) 0 ∅ 0)
/-- A piece whose source has come back: its send cell is closed. -/
def homeR (p : P) : sProp 𝕄 := semVal (sendCell c p) 0
/-- A piece still to arrive. -/
def waitR (p : P) : sProp 𝕄 := iprop(cred (tallyAt (recvCell c p) () (nOut p.1)) ∗ atPos ER (recvCell c p) 0 ∅ 0)
/-- An arrived piece: its receive cell is closed; one that is not forwarded is held here. -/
def gotR (p : P) : sProp 𝕄 := iprop(semVal (recvCell c p) 0 ∗ if 3 ≤ p.2.val then landR m c p else iprop(emp))
/-- A chunk not loaded. -/
def rawR (i : Fin 3) : sProp 𝕄 :=
  iprop(xAt c (chunkRect i).set fullShare (X m c) ∗ (∃ f, vAt (F := F) c (chunkRect i).set fullShare f) ∗ (∃ f, sAt (F := F) c (chunkRect i).set fullShare f)
    ∗ dutyTok ER (loadCell c i) 0 0 ∗ atPos ER (loadCell c i) 0 ∅ 0)
/-- A chunk being loaded. -/
def ldgR (i : Fin 3) : sProp 𝕄 :=
  iprop(cred (tallyAt (loadCell c i) () (nLoad i)) ∗ atPos ER (loadCell c i) 0 ∅ 0 ∗ ∃ f, sAt (F := F) c (chunkRect i).set fullShare f)
/-- A chunk cast and stored. -/
def stgR (i : Fin 3) : sProp 𝕄 := iprop(semVal (loadCell c i) 0 ∗ loadR m c i)
/-- The quarter of a staged chunk that the copy into the result reads. -/
def locR (i : Fin 3) : sProp 𝕄 := sAt c (chunkRect i).set qLoc (stgB m c)
/-- The copy into the result. -/
def cpR (n : Fin 3) : sProp 𝕄 :=
  if n = 0 then iprop((∃ f, oAt (F := F) c (ownRect c).set fullShare f) ∗ dutyTok ER (copyCell c) 0 0 ∗ atPos ER (copyCell c) 0 ∅ 0)
  else if n = 1 then iprop(cred (tallyAt (copyCell c) () nOwn) ∗ atPos ER (copyCell c) 0 ∅ 0)
  else iprop(semVal (copyCell c) 0 ∗ oAt c (ownRect c).set fullShare (gathB m c))

theorem cpR_zero : cpR m c 0
    = iprop((∃ f, oAt (F := F) c (ownRect c).set fullShare f) ∗ dutyTok ER (copyCell c) 0 0 ∗ atPos ER (copyCell c) 0 ∅ 0) := if_pos rfl
theorem cpR_one : cpR m c 1 = iprop(cred (tallyAt (copyCell c) () nOwn) ∗ atPos ER (copyCell c) 0 ∅ 0) :=
  (if_neg (by decide)).trans (if_pos rfl)
theorem cpR_two : cpR m c 2 = iprop(semVal (copyCell c) 0 ∗ oAt c (ownRect c).set fullShare (gathB m c)) :=
  (if_neg (by decide)).trans (if_neg (by decide))

/-- What device `c` holds in configuration `s`. -/
def St (s : Conf) : sProp 𝕄 :=
  iprop(records m K ∗ levAts L lv ∗ (∃ W, owes (c : Thread nD τ) (due c s.unsent) W)
    ∗ bigSep s.unsent (unsentR (F := F) c) ∗ bigSep s.fly (flyR (F := F) c) ∗ bigSep s.home (homeR (F := F) c) ∗ bigSep s.src (srcR m c)
    ∗ bigSep s.wait (waitR (F := F) c) ∗ bigSep s.got (gotR m c)
    ∗ bigSep s.raw (rawR m c) ∗ bigSep s.ldg (ldgR (F := F) c) ∗ bigSep s.stg (stgR m c) ∗ bigSep s.loc (locR m c) ∗ cpR m c s.cp)

/-! ## Sources and arrivals -/

/-- A points-to in two halves. -/
theorem oAt_halves (S : Finset S65536x1024.Idx) (q : PosShare TreeShare) (f) :
    (oAt (F := F) c S q f) = iprop(oAt c S q.left f ∗ oAt c S q.right f) :=
  BI.Entails.antisymm (pointsTo_share (PosShare.mem_left_op_right q)).1 (pointsTo_share (PosShare.mem_left_op_right q)).2
theorem sAt_halves (S : Finset S8192x1024.Idx) (q : PosShare TreeShare) (f) :
    (sAt (F := F) c S q f) = iprop(sAt c S q.left f ∗ sAt c S q.right f) :=
  BI.Entails.antisymm (pointsTo_share (PosShare.mem_left_op_right q)).1 (pointsTo_share (PosShare.mem_left_op_right q)).2

/-- The source of a forwarded piece is where its parent landed. -/
theorem srcR_fwd (p q : P) (h : par p = some q) : srcR m c p = oAt c (landSet c q) (qSrc p.2) (gathB m c) := by
  unfold srcR
  have ho : ¬ Cube.own p = true := by unfold Cube.own; rw [h]; exact Bool.false_ne_true
  rw [if_neg ho, (flip_par p q h).1, (flip_par p q h).2]
theorem srcR_own (p : P) (h : Cube.own p = true) : srcR m c p = sAt c (chunkRect p.1).set (qSrc p.2) (stgB m c) := by
  unfold srcR; rw [if_pos h]

/-- A staged chunk is the sources of its own-block pieces and the quarter for the copy. -/
theorem stage_split (i : Fin 3) : sAt c (chunkRect i).set fullShare (stgB m c) = iprop(bigSep (ownOf i) (srcR m c) ∗ locR m c i) := by
  unfold ownOf locR
  rw [bigSep_insert (by simp), bigSep_insert (by simp), bigSep_singleton, srcR_own m c (i, 0) rfl, srcR_own m c (i, 1) rfl, srcR_own m c (i, 3) rfl,
    sAt_halves c _ fullShare, sAt_halves c _ fullShare.left, sAt_halves c _ fullShare.right]
  show iprop((_ ∗ _) ∗ _ ∗ _) = iprop((_ ∗ _ ∗ _) ∗ _)
  refine BI.Entails.antisymm (ent' ?_) (ent' ?_)
  · iintro ⟨⟨H1, H2⟩, H3, H4⟩
    isplitr [H4]
    · isplitl [H1]; · iexact H1
      isplitl [H2]; · iexact H2
      iexact H3
    · iexact H4
  · iintro ⟨⟨H1, H2, H3⟩, H4⟩
    isplitl [H1 H2]
    · isplitl [H1]; · iexact H1
      iexact H2
    · isplitl [H3]; · iexact H3
      iexact H4

theorem kids_zero (i : Fin 3) : kids (i, 0) = {(i, 2), (i, 4)} := by revert i; decide +kernel
theorem kids_one (i : Fin 3) : kids (i, 1) = {(i, 5)} := by revert i; decide +kernel
theorem kids_two (i : Fin 3) : kids (i, 2) = {(i, 6)} := by revert i; decide +kernel
theorem kids_leaf : ∀ p : P, 3 ≤ p.2.val → kids p = ∅ := by decide +kernel

/-- An arrived piece is the sources of the pieces that forward it, or is held as it is. -/
theorem land_split (p : P) : landR m c p = iprop(bigSep (kids p) (srcR m c) ∗ if 3 ≤ p.2.val then landR m c p else iprop(emp)) := by
  obtain ⟨i, t⟩ := p
  have e1 (A : sProp 𝕄) : A = iprop(A ∗ emp) := (BI.equiv_iff.mp sep_emp).symm
  have e2 (A : sProp 𝕄) : A = iprop(emp ∗ A) := (BI.equiv_iff.mp emp_sep).symm
  by_cases ht : 3 ≤ t.val
  · rw [if_pos ht, kids_leaf (i, t) ht, bigSep_empty]; exact e2 _
  · rw [if_neg ht]
    have h3 : t = 0 ∨ t = 1 ∨ t = 2 := by omega
    rcases h3 with rfl | rfl | rfl
    · rw [kids_zero, bigSep_insert (by simp), bigSep_singleton, srcR_fwd m c (i, 2) (i, 0) rfl, srcR_fwd m c (i, 4) (i, 0) rfl]
      unfold landR
      rw [oAt_halves c _ fullShare]
      exact e1 _
    · rw [kids_one, bigSep_singleton, srcR_fwd m c (i, 5) (i, 1) rfl]; exact e1 _
    · rw [kids_two, bigSep_singleton, srcR_fwd m c (i, 6) (i, 2) rfl]; exact e1 _

/-- The staged chunks' quarters are the whole staged cast's. -/
theorem loc_whole : bigSep Finset.univ (locR m c) = sAt c Finset.univ qLoc (stgB m c) := by
  unfold locR sAt
  rw [← chunk_cover]
  exact (pointsTo_biUnion (ℓ := (c : Thread nD τ).loc cc0_scratch1) Finset.univ (fun i => (chunkRect i).set) (fun i _ i' _ h => chunk_disjoint i i' h)).symm

end Cert.State
-- ==== Proof.Steps.lean ====
/-
# One lemma per kind of event

Each lemma takes a device from what it holds before the `n`-th event of the script (`Cube.script`) to what it holds
after it, across the instruction that is the event.
-/
module

public import proofs.«01_k».proof.Proof.State

@[expose] public section

noncomputable section

namespace Cert.Steps

open Cert.KernelIdeal Cert.KernelIdeal.Gen Cert.Cube Cert.Geom Cert.Views Cert.Sched Cert.State

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × SemLoc sig → ℕ)
variable (c : Dev nD)

/-- What device `c` holds before the `n`-th event. -/
def StAt (n : ℕ) : sProp 𝕄 := St m K c (confAt n)

theorem lv_send (p : P) : lv (sendCell c p) () = 0 := by
  show (match kindOf (semOf (.inr (.inl p))) with | .inr (.inr p) => rlev p.2 | _ => 0) = 0
  rw [kind_sem]
theorem lv_own (k : Fin 3 ⊕ Unit) : lv (dmaCell c (.inl k)) () = 0 := by
  show (match kindOf (semOf (.inl k)) with | .inr (.inr p) => rlev p.2 | _ => 0) = 0
  rw [kind_sem]
theorem rlev_pos (t : Fin 7) : 0 < rlev t := Nat.lt_trans Nat.zero_lt_one (rlev_gt t)

/-- What the device owes splits at a piece. -/
theorem due_erase {S : Finset P} {p : P} (hp : p ∈ S) : due c S = due c (S.erase p) + tallyAt (recvCell (tgt p c) p) () (nOut p.1) :=
  (Finset.sum_erase_add S _ hp).symm

/-! ## Transfers' footprints -/

theorem amount_xVM (i : Fin 3) (sm : DmaSem sig) : (xVM i).view.amount (.dma sm) = nLoad i := rfl
theorem amount_ownM (o : Dev nD) (sm : DmaSem sig) : (ownM o).view.amount (.dma sm) = nOwn := rfl
theorem amount_outM (i : Fin 3) (o : Dev nD) (sm : DmaSem sig) : (outM i o).view.amount (.dma sm) = nOut i := rfl

theorem xAt_view (i : Fin 3) :
    xAt c (chunkRect i).set fullShare (X m c) = iprop((xHM i).view.loc (c : Thread nD τ) ↦[(xHM i).view.set]{fullShare} (X m c)) := by
  rw [set_xHM]; rfl
theorem vAt_view (i : Fin 3) (f) :
    vAt (F := F) c (chunkRect i).set fullShare f = iprop((xVM i).view.loc (c : Thread nD τ) ↦[(xVM i).view.set]{fullShare} f) := by
  rw [set_xVM]; rfl
/-- What a finished load hands back. -/
theorem load_pay (i : Fin 3) (f : Buf (Elt F) ((xVM i).view.loc (c : Thread nD τ))) :
    iprop(((xVM i).view.loc (c : Thread nD τ) ↦[(xVM i).view.set]{fullShare} ((xVM i).view.write (Elt F) f ((xHM i).view.read (Elt F) (X m c)) Finset.univ))
        ∗ ((xHM i).view.loc (c : Thread nD τ) ↦[(xHM i).view.set]{fullShare} (X m c)))
      ⊢ (rd m).payload (loadCell c i) 0 0 := by
  rw [payload_dma, pointsTo_congr (load_agree (X m) i c f)]
  show _ ⊢ loadR m c i
  unfold loadR
  rw [xAt_view, vAt_view]
  iintro ⟨H1, H2⟩
  isplitl [H2]; · iexact H2
  iexact H1

/-- The place of a piece on the neighbour, as the destination of its transfer. -/
theorem spot_set (p : P) : landSet (tgt p c) p = (outM p.1 (org (flip p) c)).view.set := by
  rw [set_outM]; unfold landSet; rw [org_land_tgt]
theorem spot_view (p : P) (f) :
    oAt (F := F) (tgt p c) (landSet (tgt p c) p) fullShare f
      = iprop((outM p.1 (org (flip p) c)).view.loc (Dev.tc (tgt p c) : Thread nD τ) ↦[(outM p.1 (org (flip p) c)).view.set]{fullShare} f) := by
  rw [spot_set]; rfl
/-- What a finished transfer hands the neighbour. -/
theorem land_pay (p : P) (f w : Buf (Elt F) ((outM p.1 (org (flip p) c)).view.loc (Dev.tc (tgt p c) : Thread nD τ)))
    (h : ∀ j ∈ (outM p.1 (org (flip p) c)).view.set, w j = gath (X m) j) :
    iprop((outM p.1 (org (flip p) c)).view.loc (Dev.tc (tgt p c) : Thread nD τ) ↦[(outM p.1 (org (flip p) c)).view.set]{fullShare} w)
      ⊢ dmaPay m (tgt p c) (.inr (.inr p)) := by
  rw [pointsTo_congr h]
  show _ ⊢ landR m (tgt p c) p
  unfold landR
  rw [spot_view]

/-- The wait for the whole of a transfer cell: the payload comes back and the cell closes. -/
theorem wait_dma {α : Type} {Q : α → sProp 𝕄} {k : PUnit → Prog (TpuEff nD τ sig (Elt F) Λ₀ .tc) α}
    (kd : Kd) (sm : DmaSem sig) (hsm : sm = semOf kd) (S : Finset P) (hlv : ∀ q ∈ S, lv (dmaCell c kd) () < rlev q.2)
    {sp sp' : Space} {s s' : Shape} {e e' : EltTy} {src : Memref sig .tc sp' s' e'} {dst : Memref sig .tc sp s e}
    {h₁ : src.view.WordExact} {h₂ : dst.view.WordExact} (hN : dst.view.dmaCredit = amt kd) (W : Waits sig Unit) :
    iprop(records m K ∗ levAts L lv ∗ owes (c : Thread nD τ) (due c S) W ∗ cred (tallyAt (dmaCell c kd) () (amt kd)) ∗ atPos ER (dmaCell c kd) 0 ∅ 0)
      ⊢ iprop(((∃ W', owes (c : Thread nD τ) (due c S) W') -∗ semVal (dmaCell c kd) 0 -∗ dmaPay m c kd
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h₁ h₂) k) Q) := by
  subst hsm
  iintro ⟨#HR, #Hlev, HO, Hc, Hat⟩ Hk
  ihave #HI := (inv_at m K c (.dma (semOf kd))) $$ HR
  iapply (Rounds.wp_wait_rest_token 𝒱₀ ER (rd m) (c : Thread nD τ) none (κ := K (c, .dma (semOf kd)))
      (wpE_waitDma2_eq 𝒱₀ (c : Thread nD τ) none Set.univ) (Set.mem_univ _) () (O := due c S) (W := W) (R := 0) (m := 0) (T := ∅)
      (by rw [Nat.zero_add, hN, expect_dma])) $$ [Hc HO Hat]
  · isplitr; · iexact HI
    isplitl [Hc]; · rw [hN]; iexact Hc
    isplitl [HO]; · iexact HO
    isplitr
    · iapply (mayWait_due c (.dma (semOf kd)) S hlv); iexact Hlev
    iexact Hat
  iintro ⟨HO, Hat, -, Hpay⟩
  ihave Hp := (eqv (rest_dma m c kd)) $$ Hpay
  imod (Rounds.cell_close ER (rd m) (Set.mem_univ (K (c, .dma (semOf kd)))) (fun h => h) (R := 0 + 1) (duties_later m (dmaCell c kd))) $$ [Hat] with Hz
  · isplitr; · iexact HI
    iexact Hat
  iapply Hk $$ [HO] Hz Hp
  iexists _; iexact HO

/-- The transfer of a chunk of `x` into its landing buffer. -/
theorem load_rule {α : Type} {Q : α → sProp 𝕄} {k : PUnit → Prog (TpuEff nD τ sig (Elt F) Λ₀ .tc) α}
    (i : Fin 3) {h₁ : (xHM i).view.WordExact} {h₂ : (xVM i).view.WordExact}
    {h₃ : DmaTarget.Typed .hbm (.dma (semOf (.inl (.inl i)))) (DmaTarget.here (nD := nD) (τ := τ) (p := .tc) (xVM i))}
    (fv : Buf (Elt F) ((xVM i).view.loc (c : Thread nD τ))) :
    iprop(cellInv ER (rd m) (K (c, .dma (semOf (.inl (.inl i))))) (loadCell c i)
        ∗ ((xHM i).view.loc (c : Thread nD τ) ↦[(xHM i).view.set]{fullShare} (X m c))
        ∗ ((xVM i).view.loc (c : Thread nD τ) ↦[(xVM i).view.set]{fullShare} fv)
        ∗ dutyTok ER (loadCell c i) 0 0 ∗ reached ER (loadCell c i) 0)
      ⊢ iprop((cred (tallyAt (loadCell c i) () (nLoad i)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xHM i) (.here (xVM i)) (.dma (semOf (.inl (.inl i)))) h₁ h₂ h₃) k) Q) :=
  Rounds.wp_copy_pointsTo 𝒱₀ ER (rd m) (c : Thread nD τ) none (κ := K (c, .dma (semOf (.inl (.inl i))))) (r := 0) (d := 0)
    (src := xHM i) (dst := xVM i) (q := fullShare) (fs := X m c) (fd := fv)
    (by rw [duties_dma]; exact Finset.mem_singleton_self _) () (nLoad i) (amount_xVM i _) (by exact amount_dma m c (.inl (.inl i)) 0) (by exact load_pay m c i fv)

/-- The transfer of a piece to the neighbour. -/
theorem send_rule {α : Type} {Q : α → sProp 𝕄} {k : PUnit → Prog (TpuEff nD τ sig (Elt F) Λ₀ .tc) α}
    (p : P) {sp : Space} (src : Memref sig .tc sp ⟨2, ![crow p.1, 1024]⟩ .bf16)
    (fs : Buf (Elt F) (src.view.loc (c : Thread nD τ)))
    (hsrc : srcR m c p = iprop(src.view.loc (c : Thread nD τ) ↦[src.view.set]{qSrc p.2} fs))
    (hag : ∀ f, ∀ j ∈ (outM p.1 (org (flip p) c)).view.set,
      (outM p.1 (org (flip p) c)).view.write (Elt F) f (src.view.read (Elt F) fs) Finset.univ j = gath (X m) j)
    {hsc : (outM p.1 (org (flip p) c)).view.ref.isScScratch = false} {h₁ : src.view.WordExact} {h₂ : (outM p.1 (org (flip p) c)).view.WordExact}
    {h₃ : DmaTarget.Typed sp (.dma (semOf (.inr (.inr p)))) (DmaTarget.remote (p := .tc) (Dev.tc (tgt p c) : Thread nD τ) (outM p.1 (org (flip p) c)) (.dma (semOf (.inr (.inl p)))) hsc)}
    (fd : Buf (Elt F) ((outM p.1 (org (flip p) c)).view.loc (Dev.tc (tgt p c) : Thread nD τ))) (W : Waits sig Unit) {S : Finset P} (hp : p ∈ S) :
    iprop(cellInv ER (rd m) (K (c, .dma (semOf (.inr (.inl p))))) (sendCell c p) ∗ cellInv ER (rd m) (K (tgt p c, .dma (semOf (.inr (.inr p))))) (recvCell (tgt p c) p)
        ∗ (src.view.loc (c : Thread nD τ) ↦[src.view.set]{qSrc p.2} fs)
        ∗ ((outM p.1 (org (flip p) c)).view.loc (Dev.tc (tgt p c) : Thread nD τ) ↦[(outM p.1 (org (flip p) c)).view.set]{fullShare} fd)
        ∗ owes (c : Thread nD τ) (due c S) W
        ∗ dutyTok ER (sendCell c p) 0 0 ∗ reached ER (sendCell c p) 0 ∗ dutyTok ER (recvCell (tgt p c) p) 0 0 ∗ reached ER (recvCell (tgt p c) p) 0)
      ⊢ iprop(((cred (tallyAt (sendCell c p) () (nOut p.1)) ∗ owes (c : Thread nD τ) (due c (S.erase p)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc (tgt p c) : Thread nD τ) (outM p.1 (org (flip p) c)) (.dma (semOf (.inr (.inl p)))) hsc) (.dma (semOf (.inr (.inr p)))) h₁ h₂ h₃) k) Q) :=
  Rounds.wp_send_pointsTo 𝒱₀ ER (rd m) (c : Thread nD τ) none (κ₁ := K (c, .dma (semOf (.inr (.inl p))))) (κ₂ := K (tgt p c, .dma (semOf (.inr (.inr p)))))
      (r₁ := 0) (r₂ := 0) (d₁ := 0) (d₂ := 0) (c' := (Dev.tc (tgt p c) : Thread nD τ)) (src := src) (dst := outM p.1 (org (flip p) c)) (fs := fs) (fd := fd)
      (by rw [duties_dma]; exact Finset.mem_singleton_self _) (by rw [duties_dma]; exact Finset.mem_singleton_self _)
      () () (nOut p.1) (by exact amount_outM _ _ _) (by exact amount_dma m c (.inr (.inl p)) 0) (by exact amount_dma m (tgt p c) (.inr (.inr p)) 0) (due c (S.erase p)) (by exact due_erase c hp) (W := W)
      (by rw [payload_dma]; exact eqv hsrc.symm) (by rw [payload_dma]; exact land_pay m c p fd _ (hag fd))

/-- Starting the load of a chunk. -/
theorem step_load {α : Type} {Q : α → sProp 𝕄} {k : PUnit → Prog (TpuEff nD τ sig (Elt F) Λ₀ .tc) α}
    (n : ℕ) (i : Fin 3) (hev : script[n]? = some (.load i)) (sm : DmaSem sig) (hsm : sm = semOf (.inl (.inl i)))
    {h₁ : (xHM i).view.WordExact} {h₂ : (xVM i).view.WordExact}
    {h₃ : DmaTarget.Typed .hbm (.dma sm) (DmaTarget.here (nD := nD) (τ := τ) (p := .tc) (xVM i))}
    (h : StAt m K c (n + 1) ⊢ wp frame (wpE (defs₀ (F := F)) 𝒱₀ (c : Thread nD τ) none) Set.univ (k ⟨⟩) Q) :
    StAt m K c n ⊢ wp frame (wpE (defs₀ (F := F)) 𝒱₀ (c : Thread nD τ) none) Set.univ
      (.op (.enqueueDma (xHM i) (.here (xVM i)) (.dma sm) h₁ h₂ h₃) k) Q := by
  subst hsm
  have hok := ok_at n _ hev
  unfold StAt at h ⊢
  rw [confAt_succ n _ hev] at h
  generalize confAt n = s at h hok
  obtain ⟨hraw, hldg⟩ := of_decide_eq_true hok
  unfold St at h ⊢
  dsimp only [Conf.apply] at h
  iintro ⟨#HR, #Hlev, HO, HU, HF, HH, HS, HW, HG, Hraw, Hldg, Hrest⟩
  ihave #HI := (inv_at m K c (.dma (semOf (.inl (.inl i))))) $$ HR
  ihave #Hre := (reached_at m K c (.dma (semOf (.inl (.inl i))))) $$ HR
  ihave Hraw := (take _ hraw) $$ Hraw
  unfold rawR
  icases Hraw with ⟨⟨Hx, ⟨%fv, Hv⟩, Hs, Ht, Hat⟩, Hraw⟩
  ihave Hx := (eqv (xAt_view m c i)) $$ Hx
  ihave Hv := (eqv (vAt_view c i fv)) $$ Hv
  iapply (load_rule m K c i fv) $$ [Hx Hv Ht]
  · isplitr; · iexact HI
    isplitl [Hx]; · iexact Hx
    isplitl [Hv]; · iexact Hv
    isplitl [Ht]; · iexact Ht
    iexact Hre
  iintro Hc
  iapply h
  isplitr; · iexact HR
  isplitr; · iexact Hlev
  isplitl [HO]; · iexact HO
  isplitl [HU]; · iexact HU
  isplitl [HF]; · iexact HF
  isplitl [HH]; · iexact HH
  isplitl [HS]; · iexact HS
  isplitl [HW]; · iexact HW
  isplitl [HG]; · iexact HG
  isplitl [Hraw]; · iexact Hraw
  isplitl [Hldg Hc Hat Hs]
  · iapply (put _ hldg)
    isplitl [Hc Hat Hs]
    · unfold ldgR
      isplitl [Hc]; · iexact Hc
      isplitl [Hat]; · iexact Hat
      iexact Hs
    iexact Hldg
  iexact Hrest

/-- Sending a piece from a source that the device holds. -/
theorem send_core {α : Type} {Q : α → sProp 𝕄} {k : PUnit → Prog (TpuEff nD τ sig (Elt F) Λ₀ .tc) α}
    (n : ℕ) (p : P) (hev : script[n]? = some (.send p)) {sp : Space} (src : Memref sig .tc sp ⟨2, ![crow p.1, 1024]⟩ .bf16)
    (fs : Buf (Elt F) (src.view.loc (c : Thread nD τ)))
    (hsrc : srcR m c p = iprop(src.view.loc (c : Thread nD τ) ↦[src.view.set]{qSrc p.2} fs))
    (hag : ∀ f, ∀ j ∈ (outM p.1 (org (flip p) c)).view.set,
      (outM p.1 (org (flip p) c)).view.write (Elt F) f (src.view.read (Elt F) fs) Finset.univ j = gath (X m) j)
    {hsc : (outM p.1 (org (flip p) c)).view.ref.isScScratch = false} {h₁ : src.view.WordExact} {h₂ : (outM p.1 (org (flip p) c)).view.WordExact}
    {h₃ : DmaTarget.Typed sp (.dma (semOf (.inr (.inr p)))) (DmaTarget.remote (p := .tc) (Dev.tc (tgt p c) : Thread nD τ) (outM p.1 (org (flip p) c)) (.dma (semOf (.inr (.inl p)))) hsc)}
    (h : StAt m K c (n + 1) ⊢ wp frame (wpE (defs₀ (F := F)) 𝒱₀ (c : Thread nD τ) none) Set.univ (k ⟨⟩) Q) :
    StAt m K c n ⊢ wp frame (wpE (defs₀ (F := F)) 𝒱₀ (c : Thread nD τ) none) Set.univ
      (.op (.enqueueDma src (.remote (Dev.tc (tgt p c) : Thread nD τ) (outM p.1 (org (flip p) c)) (.dma (semOf (.inr (.inl p)))) hsc) (.dma (semOf (.inr (.inr p)))) h₁ h₂ h₃) k) Q := by
  have hok := ok_at n _ hev
  unfold StAt at h ⊢
  rw [confAt_succ n _ hev] at h
  generalize confAt n = s at h hok
  obtain ⟨huns, hsr, hfly⟩ := of_decide_eq_true hok
  unfold St at h ⊢
  dsimp only [Conf.apply] at h
  iintro ⟨#HR, #Hlev, ⟨%W, HO⟩, HU, HF, HH, HS, Hrest⟩
  ihave #HI₁ := (inv_at m K c (.dma (semOf (.inr (.inl p))))) $$ HR
  ihave #Hre₁ := (reached_at m K c (.dma (semOf (.inr (.inl p))))) $$ HR
  ihave #HI₂ := (inv_at m K (tgt p c) (.dma (semOf (.inr (.inr p))))) $$ HR
  ihave #Hre₂ := (reached_at m K (tgt p c) (.dma (semOf (.inr (.inr p))))) $$ HR
  ihave HU := (take _ huns) $$ HU
  ihave HS := (take _ hsr) $$ HS
  unfold unsentR spotR
  icases HU with ⟨⟨⟨%fd, Hd⟩, Ht₁, Ht₂, Hat⟩, HU⟩
  icases HS with ⟨Hs, HS⟩
  ihave Hs := (eqv hsrc) $$ Hs
  ihave Hd := (eqv (spot_view c p fd)) $$ Hd
  iapply (send_rule m K c p src fs hsrc hag fd W huns) $$ [Hs Hd HO Ht₁ Ht₂]
  · isplitr; · iexact HI₁
    isplitr; · iexact HI₂
    isplitl [Hs]; · iexact Hs
    isplitl [Hd]; · iexact Hd
    isplitl [HO]; · iexact HO
    isplitl [Ht₁]; · iexact Ht₁
    isplitr; · iexact Hre₁
    isplitl [Ht₂]; · iexact Ht₂
    iexact Hre₂
  iintro ⟨Hc, HO⟩
  iapply h
  isplitr; · iexact HR
  isplitr; · iexact Hlev
  isplitl [HO]; · iexists W; iexact HO
  isplitl [HU]; · iexact HU
  isplitl [HF Hc Hat]
  · iapply (put _ hfly)
    isplitl [Hc Hat]
    · unfold flyR
      isplitl [Hc]; · iexact Hc
      iexact Hat
    iexact HF
  isplitl [HH]; · iexact HH
  isplitl [HS]; · iexact HS
  iexact Hrest

/-- Sending a piece of the device's own block. -/
theorem step_own {α : Type} {Q : α → sProp 𝕄} {k : PUnit → Prog (TpuEff nD τ sig (Elt F) Λ₀ .tc) α}
    (n : ℕ) (p : P) (hev : script[n]? = some (.send p)) (hown : Cube.own p = true) (t : Dev nD) (ht : t = tgt p c)
    (sS sR : DmaSem sig) (hS : sS = semOf (.inr (.inl p))) (hR : sR = semOf (.inr (.inr p)))
    (off : Fin 2 → ℕ) (hoff : off = ![8192 * (org (flip p) c).val + coff p.1, 0]) (inb : ∀ a, off a + (![crow p.1, 1024] : Fin 2 → ℕ) a ≤ S65536x1024.size a)
    {hsc} {h₁ : (sVM p.1).view.WordExact} {h₂}
    {h₃ : DmaTarget.Typed .vmem (.dma sR) (DmaTarget.remote (p := .tc) (Dev.tc t : Thread nD τ) (oH.slice (Rect.unit (s := S65536x1024) off ![crow p.1, 1024] inb) (fun _ => rfl)) (.dma sS) hsc)}
    (h : StAt m K c (n + 1) ⊢ wp frame (wpE (defs₀ (F := F)) 𝒱₀ (c : Thread nD τ) none) Set.univ (k ⟨⟩) Q) :
    StAt m K c n ⊢ wp frame (wpE (defs₀ (F := F)) 𝒱₀ (c : Thread nD τ) none) Set.univ
      (.op (.enqueueDma (sVM p.1) (.remote (Dev.tc t : Thread nD τ) (oH.slice (Rect.unit (s := S65536x1024) off ![crow p.1, 1024] inb) (fun _ => rfl)) (.dma sS) hsc) (.dma sR) h₁ h₂ h₃) k) Q := by
  subst ht hS hR hoff
  refine send_core m K c n p hev (sVM p.1) (stgB m c) ?_ ?_ h
  · rw [srcR_own m c p hown, set_sVM]; rfl
  · intro f
    have e : org (flip p) c = c := by rw [flip_own p hown, org_zero]
    have key : ∀ o, o = c → ∀ f, ∀ j ∈ (outM p.1 o).view.set,
        (outM p.1 o).view.write (Elt F) f ((sVM p.1).view.read (Elt F) (stgB m c)) Finset.univ j = gath (X m) j := by
      rintro o rfl; exact own_agree (X m) p.1 o
    exact key _ e f

/-- Forwarding a piece that arrived. -/
theorem step_fwd {α : Type} {Q : α → sProp 𝕄} {k : PUnit → Prog (TpuEff nD τ sig (Elt F) Λ₀ .tc) α}
    (n : ℕ) (p : P) (hev : script[n]? = some (.send p)) (hown : Cube.own p = false) (t : Dev nD) (ht : t = tgt p c)
    (sS sR : DmaSem sig) (hS : sS = semOf (.inr (.inl p))) (hR : sR = semOf (.inr (.inr p)))
    (off : Fin 2 → ℕ) (hoff : off = ![8192 * (org (flip p) c).val + coff p.1, 0]) (inb : ∀ a, off a + (![crow p.1, 1024] : Fin 2 → ℕ) a ≤ S65536x1024.size a)
    {hsc} {h₁} {h₂}
    {h₃ : DmaTarget.Typed .hbm (.dma sR) (DmaTarget.remote (p := .tc) (Dev.tc t : Thread nD τ) (oH.slice (Rect.unit (s := S65536x1024) off ![crow p.1, 1024] inb) (fun _ => rfl)) (.dma sS) hsc)}
    (h : StAt m K c (n + 1) ⊢ wp frame (wpE (defs₀ (F := F)) 𝒱₀ (c : Thread nD τ) none) Set.univ (k ⟨⟩) Q) :
    StAt m K c n ⊢ wp frame (wpE (defs₀ (F := F)) 𝒱₀ (c : Thread nD τ) none) Set.univ
      (.op (.enqueueDma (oH.slice (Rect.unit (s := S65536x1024) off ![crow p.1, 1024] inb) (fun _ => rfl)) (.remote (Dev.tc t : Thread nD τ) (oH.slice (Rect.unit (s := S65536x1024) off ![crow p.1, 1024] inb) (fun _ => rfl)) (.dma sS) hsc) (.dma sR) h₁ h₂ h₃) k) Q := by
  subst ht hS hR hoff
  refine send_core m K c n p hev (outM p.1 (org (flip p) c)) (gathB m c) ?_ (fwd_agree (X m) p.1 (org (flip p) c)) h
  unfold srcR
  rw [if_neg (by rw [hown]; exact Bool.false_ne_true), set_outM]; rfl

/-- Waiting for a piece to arrive. -/
theorem step_recv {α : Type} {Q : α → sProp 𝕄} {k : PUnit → Prog (TpuEff nD τ sig (Elt F) Λ₀ .tc) α}
    (n : ℕ) (p : P) (hev : script[n]? = some (.recv p)) (sm : DmaSem sig) (hsm : sm = semOf (.inr (.inr p)))
    {sp sp' : Space} {s s' : Shape} {e e' : EltTy} {src : Memref sig .tc sp' s' e'} {dst : Memref sig .tc sp s e}
    {h₁ : src.view.WordExact} {h₂ : dst.view.WordExact} (hN : dst.view.dmaCredit = nOut p.1)
    (h : StAt m K c (n + 1) ⊢ wp frame (wpE (defs₀ (F := F)) 𝒱₀ (c : Thread nD τ) none) Set.univ (k ⟨⟩) Q) :
    StAt m K c n ⊢ wp frame (wpE (defs₀ (F := F)) 𝒱₀ (c : Thread nD τ) none) Set.univ (.op (.waitDma2 sm src dst h₁ h₂) k) Q := by
  have hok := ok_at n _ hev
  unfold StAt at h ⊢
  rw [confAt_succ n _ hev] at h
  generalize confAt n = s at h hok
  obtain ⟨hw, hg, hdisj, hl⟩ := of_decide_eq_true hok
  unfold St at h ⊢
  dsimp only [Conf.apply] at h
  iintro ⟨#HR, #Hlev, ⟨%W, HO⟩, HU, HF, HH, HS, HW, HG, Hrest⟩
  ihave HW := (take _ hw) $$ HW
  unfold waitR
  icases HW with ⟨⟨Hc, Hat⟩, HW⟩
  iapply (wait_dma m K c (.inr (.inr p)) sm hsm s.unsent (fun q hq => by rw [lv_recv]; exact hl q hq) hN W) $$ [HO Hc Hat]
  · isplitr; · iexact HR
    isplitr; · iexact Hlev
    isplitl [HO]; · iexact HO
    isplitl [Hc]; · iexact Hc
    iexact Hat
  iintro HO Hz Hp
  ihave Hp := (eqv ((show dmaPay m c (.inr (.inr p)) = landR m c p from rfl).trans (land_split m c p))) $$ Hp
  icases Hp with ⟨Hk, Hp⟩
  iapply h
  isplitr; · iexact HR
  isplitr; · iexact Hlev
  isplitl [HO]; · iexact HO
  isplitl [HU]; · iexact HU
  isplitl [HF]; · iexact HF
  isplitl [HH]; · iexact HH
  isplitl [HS Hk]
  · iapply (join _ hdisj)
    isplitl [HS]; · iexact HS
    iexact Hk
  isplitl [HW]; · iexact HW
  isplitl [HG Hz Hp]
  · iapply (put _ hg)
    isplitl [Hz Hp]
    · unfold gotR
      isplitl [Hz]; · iexact Hz
      iexact Hp
    iexact HG
  iexact Hrest

/-- Waiting until a piece has left. -/
theorem step_back {α : Type} {Q : α → sProp 𝕄} {k : PUnit → Prog (TpuEff nD τ sig (Elt F) Λ₀ .tc) α}
    (n : ℕ) (p : P) (hev : script[n]? = some (.back p)) (sm : DmaSem sig) (hsm : sm = semOf (.inr (.inl p)))
    {sp sp' : Space} {s s' : Shape} {e e' : EltTy} {src : Memref sig .tc sp' s' e'} {dst : Memref sig .tc sp s e}
    {h₁ : src.view.WordExact} {h₂ : dst.view.WordExact} (hN : dst.view.dmaCredit = nOut p.1)
    (h : StAt m K c (n + 1) ⊢ wp frame (wpE (defs₀ (F := F)) 𝒱₀ (c : Thread nD τ) none) Set.univ (k ⟨⟩) Q) :
    StAt m K c n ⊢ wp frame (wpE (defs₀ (F := F)) 𝒱₀ (c : Thread nD τ) none) Set.univ (.op (.waitDma2 sm src dst h₁ h₂) k) Q := by
  have hok := ok_at n _ hev
  unfold StAt at h ⊢
  rw [confAt_succ n _ hev] at h
  generalize confAt n = s at h hok
  obtain ⟨hf, hh, hsr, hu⟩ := of_decide_eq_true hok
  unfold St at h ⊢
  dsimp only [Conf.apply] at h
  iintro ⟨#HR, #Hlev, ⟨%W, HO⟩, HU, HF, HH, HS, Hrest⟩
  ihave HF := (take _ hf) $$ HF
  unfold flyR
  icases HF with ⟨⟨Hc, Hat⟩, HF⟩
  iapply (wait_dma m K c (.inr (.inl p)) sm hsm s.unsent (fun q hq => by rw [lv_send]; exact rlev_pos q.2) hN W) $$ [HO Hc Hat]
  · isplitr; · iexact HR
    isplitr; · iexact Hlev
    isplitl [HO]; · iexact HO
    isplitl [Hc]; · iexact Hc
    iexact Hat
  iintro HO Hz Hp
  ihave Hp := (eqv (show dmaPay m c (.inr (.inl p)) = srcR m c p from rfl)) $$ Hp
  iapply h
  isplitr; · iexact HR
  isplitr; · iexact Hlev
  isplitl [HO]; · iexact HO
  isplitl [HU]; · iexact HU
  isplitl [HF]; · iexact HF
  isplitl [HH Hz]
  · iapply (put _ hh)
    isplitl [Hz]; · unfold homeR; iexact Hz
    iexact HH
  isplitl [HS Hp]
  · iapply (put _ hsr)
    isplitl [Hp]; · iexact Hp
    iexact HS
  iexact Hrest

/-! ## The cast of a chunk -/

theorem on_x (i : Fin 3) : xV.view.setOn (chunkRect i).set = (chunkRect i).set := (View.set_slice xV.view (chunkRect i)).symm.trans (set_xVM i)
theorem on_s (i : Fin 3) : sV.view.setOn (chunkRect i).set = (chunkRect i).set := (View.set_slice sV.view (chunkRect i)).symm.trans (set_sVM i)
theorem acc_s (i : Fin 3) : (sV.access (chunkRect i)).set = (chunkRect i).set := set_sVM i

theorem read_x {α : Type} {Q : α → sProp 𝕄} (i : Fin 3) {hl : xV.view.LoadsAt (chunkRect i).toLoadRect}
    {k : ((chunkRect i).toLoadRect.shape.Idx → Elt F .f32) → Prog (TpuEff nD τ sig (Elt F) Λ₀ .tc) α} (f) :
    vAt c (chunkRect i).set fullShare f
      ⊢ iprop((vAt c (chunkRect i).set fullShare f -∗ wp frame (wpE (defs₀ (F := F)) 𝒱₀ (c : Thread nD τ) none) Set.univ (k (xV.view.readAt (Elt F) (chunkRect i).toLoadRect f)) Q)
        -∗ wp frame (wpE (defs₀ (F := F)) 𝒱₀ (c : Thread nD τ) none) Set.univ (.op (.load xV (chunkRect i).toLoadRect hl) k) Q) :=
  wp_load 𝒱₀ (c : Thread nD τ) none Set.univ (m := xV) (r := (chunkRect i).toLoadRect) (S := (chunkRect i).set) (q := fullShare) (f := f) (by exact (on_x i).le)
theorem read_s {α : Type} {Q : α → sProp 𝕄} (i : Fin 3) {hl : sV.view.LoadsAt (chunkRect i).toLoadRect}
    {k : ((chunkRect i).toLoadRect.shape.Idx → Elt F .bf16) → Prog (TpuEff nD τ sig (Elt F) Λ₀ .tc) α} (f) :
    sAt c (chunkRect i).set fullShare f
      ⊢ iprop((sAt c (chunkRect i).set fullShare f -∗ wp frame (wpE (defs₀ (F := F)) 𝒱₀ (c : Thread nD τ) none) Set.univ (k (sV.view.readAt (Elt F) (chunkRect i).toLoadRect f)) Q)
        -∗ wp frame (wpE (defs₀ (F := F)) 𝒱₀ (c : Thread nD τ) none) Set.univ (.op (.load sV (chunkRect i).toLoadRect hl) k) Q) :=
  wp_load 𝒱₀ (c : Thread nD τ) none Set.univ (m := sV) (r := (chunkRect i).toLoadRect) (S := (chunkRect i).set) (q := fullShare) (f := f) (by exact (on_s i).le)
/-- Storing the cast of the loaded chunk. -/
theorem write_s {α : Type} {Q : α → sProp 𝕄} {k : PUnit → Prog (TpuEff nD τ sig (Elt F) Λ₀ .tc) α}
    (i : Fin 3) {hx : (sV.access (chunkRect i)).Stores Finset.univ} {hm} (f)
    (w : (chunkRect i).shape.Idx → Elt F .bf16)
    (hw : w = fun x => FloatOps.truncf .bf16 Gen.bitsLt_bf16_f32 (xV.view.readAt (Elt F) (chunkRect i).toLoadRect (X m c) x)) :
    sAt c (chunkRect i).set fullShare f
      ⊢ iprop((sAt c (chunkRect i).set fullShare (stgB m c) -∗ wp frame (wpE (defs₀ (F := F)) 𝒱₀ (c : Thread nD τ) none) Set.univ (k ⟨⟩) Q)
        -∗ wp frame (wpE (defs₀ (F := F)) 𝒱₀ (c : Thread nD τ) none) Set.univ (.op (.store sV (chunkRect i) w Finset.univ hx hm) k) Q) := by
  have e : iprop((sV.access (chunkRect i)).loc (c : Thread nD τ) ↦[(sV.access (chunkRect i)).set]{fullShare} (sV.access (chunkRect i)).write (Elt F) f w Finset.univ)
      = sAt c (chunkRect i).set fullShare (stgB m c) := by
    subst hw
    rw [pointsTo_congr (store_agree (X m) i c f), acc_s]; rfl
  have e' : iprop((sV.access (chunkRect i)).loc (c : Thread nD τ) ↦[(sV.access (chunkRect i)).set]{fullShare} f) = sAt c (chunkRect i).set fullShare f := by
    rw [acc_s]; rfl
  rw [← e, ← e']
  exact wp_store 𝒱₀ (c : Thread nD τ) none Set.univ (m := sV) (r := chunkRect i) (Mk := Finset.univ) (S := (sV.access (chunkRect i)).set) (f := f) subset_rfl

/-- Waiting for a chunk's load, and storing its cast. -/
theorem step_stage {α : Type} {Q : α → sProp 𝕄} {k : PUnit → Prog (TpuEff nD τ sig (Elt F) Λ₀ .tc) α}
    (n : ℕ) (i : Fin 3) (hev : script[n]? = some (.stage i)) (sm : DmaSem sig) (hsm : sm = semOf (.inl (.inl i)))
    {sp sp' : Space} {s s' : Shape} {e e' : EltTy} {src : Memref sig .tc sp' s' e'} {dst : Memref sig .tc sp s e}
    {h₁ : src.view.WordExact} {h₂ : dst.view.WordExact} (hN : dst.view.dmaCredit = nLoad i)
    {hl : xV.view.LoadsAt (chunkRect i).toLoadRect} {hl' : sV.view.LoadsAt (chunkRect i).toLoadRect}
    (pay : ((chunkRect i).toLoadRect.shape.Idx → Elt F .f32) → (chunkRect i).shape.Idx → Elt F .bf16)
    (hpay : ∀ v, pay v = fun x => FloatOps.truncf .bf16 Gen.bitsLt_bf16_f32 (v x))
    {hx : (sV.access (chunkRect i)).Stores Finset.univ} {hm}
    (h : StAt m K c (n + 1) ⊢ wp frame (wpE (defs₀ (F := F)) 𝒱₀ (c : Thread nD τ) none) Set.univ (k ⟨⟩) Q) :
    StAt m K c n ⊢ wp frame (wpE (defs₀ (F := F)) 𝒱₀ (c : Thread nD τ) none) Set.univ (.op (.waitDma2 sm src dst h₁ h₂) fun _ => .op (.load xV (chunkRect i).toLoadRect hl) fun v =>
      .op (.load sV (chunkRect i).toLoadRect hl') fun _ => .op (.store sV (chunkRect i) (pay v) Finset.univ hx hm) k) Q := by
  have hok := ok_at n _ hev
  unfold StAt at h ⊢
  rw [confAt_succ n _ hev] at h
  generalize confAt n = s at h hok
  obtain ⟨hld, hst, hlo, hdisj⟩ := of_decide_eq_true hok
  unfold St at h ⊢
  dsimp only [Conf.apply] at h
  iintro ⟨#HR, #Hlev, ⟨%W, HO⟩, HU, HF, HH, HS, HW, HG, Hraw, Hldg, Hstg, Hloc, Hcp⟩
  ihave Hldg := (take _ hld) $$ Hldg
  unfold ldgR
  icases Hldg with ⟨⟨Hc, Hat, ⟨%f, Hs⟩⟩, Hldg⟩
  iapply (wait_dma m K c (.inl (.inl i)) sm hsm s.unsent (fun q hq => by rw [lv_own]; exact rlev_pos q.2) hN W) $$ [HO Hc Hat]
  · isplitr; · iexact HR
    isplitr; · iexact Hlev
    isplitl [HO]; · iexact HO
    isplitl [Hc]; · iexact Hc
    iexact Hat
  iintro HO Hz Hp
  ihave Hp := (eqv (show dmaPay m c (.inl (.inl i)) = iprop(xAt c (chunkRect i).set fullShare (X m c) ∗ vAt c (chunkRect i).set fullShare (X m c)) from rfl)) $$ Hp
  icases Hp with ⟨Hx, Hv⟩
  iapply (read_x c i (X m c)) $$ Hv
  iintro Hv
  iapply (read_s c i f) $$ Hs
  iintro Hs
  iapply (write_s m c i f _ (hpay _)) $$ Hs
  iintro Hs
  ihave Hs := (eqv (stage_split m c i)) $$ Hs
  icases Hs with ⟨Ho, Hl⟩
  iapply h
  isplitr; · iexact HR
  isplitr; · iexact Hlev
  isplitl [HO]; · iexact HO
  isplitl [HU]; · iexact HU
  isplitl [HF]; · iexact HF
  isplitl [HH]; · iexact HH
  isplitl [HS Ho]
  · iapply (join _ hdisj)
    isplitl [HS]; · iexact HS
    iexact Ho
  isplitl [HW]; · iexact HW
  isplitl [HG]; · iexact HG
  isplitl [Hraw]; · iexact Hraw
  isplitl [Hldg]; · iexact Hldg
  isplitl [Hstg Hz Hx Hv]
  · iapply (put _ hst)
    isplitl [Hz Hx Hv]
    · unfold stgR loadR
      isplitl [Hz]; · iexact Hz
      isplitl [Hx]; · iexact Hx
      iexact Hv
    iexact Hstg
  isplitl [Hloc Hl]
  · iapply (put _ hlo)
    isplitl [Hl]; · iexact Hl
    iexact Hloc
  iexact Hcp

/-! ## The copy into the result -/

theorem set_sV : sV.view.set = Finset.univ := View.set_whole _
/-- What the finished copy hands back. -/
theorem copy_pay (f : Buf (Elt F) ((ownM c).view.loc (c : Thread nD τ))) :
    iprop(((ownM c).view.loc (c : Thread nD τ) ↦[(ownM c).view.set]{fullShare} ((ownM c).view.write (Elt F) f (sV.view.read (Elt F) (stgB m c)) Finset.univ))
        ∗ (sV.view.loc (c : Thread nD τ) ↦[sV.view.set]{qLoc} (stgB m c)))
      ⊢ (rd m).payload (copyCell c) 0 0 := by
  rw [payload_dma, pointsTo_congr (copy_agree (X m) c f), set_ownM, set_sV]
  exact BIBase.Entails.rfl
theorem copy_rule {α : Type} {Q : α → sProp 𝕄} {k : PUnit → Prog (TpuEff nD τ sig (Elt F) Λ₀ .tc) α}
    {h₁ : sV.view.WordExact} {h₂ : (ownM c).view.WordExact}
    {h₃ : DmaTarget.Typed .vmem (.dma (semOf (.inl (.inr ())))) (DmaTarget.here (nD := nD) (τ := τ) (p := .tc) (ownM c))}
    (f : Buf (Elt F) ((ownM c).view.loc (c : Thread nD τ))) :
    iprop(cellInv ER (rd m) (K (c, .dma (semOf (.inl (.inr ()))))) (copyCell c)
        ∗ sAt c Finset.univ qLoc (stgB m c) ∗ oAt c (ownRect c).set fullShare f
        ∗ dutyTok ER (copyCell c) 0 0 ∗ reached ER (copyCell c) 0)
      ⊢ iprop((cred (tallyAt (copyCell c) () nOwn) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma sV (.here (ownM c)) (.dma (semOf (.inl (.inr ())))) h₁ h₂ h₃) k) Q) := by
  have e : iprop((ownM c).view.loc (c : Thread nD τ) ↦[(ownM c).view.set]{fullShare} f) = oAt c (ownRect c).set fullShare f := by
    rw [set_ownM]; rfl
  have e' : iprop(sV.view.loc (c : Thread nD τ) ↦[sV.view.set]{qLoc} (stgB m c)) = sAt c Finset.univ qLoc (stgB m c) := by
    rw [set_sV]; rfl
  rw [← e, ← e']
  exact Rounds.wp_copy_pointsTo 𝒱₀ ER (rd m) (c : Thread nD τ) none (κ := K (c, .dma (semOf (.inl (.inr ()))))) (r := 0) (d := 0)
    (src := sV) (dst := ownM c) (q := qLoc) (fs := stgB m c) (fd := f)
    (by rw [duties_dma]; exact Finset.mem_singleton_self _) () nOwn (by exact amount_ownM c _) (by exact amount_dma m c (.inl (.inr ())) 0) (by exact copy_pay m c f)

/-- Starting the copy of the staged block into the result. -/
theorem step_copy {α : Type} {Q : α → sProp 𝕄} {k : PUnit → Prog (TpuEff nD τ sig (Elt F) Λ₀ .tc) α}
    (n : ℕ) (hev : script[n]? = some .copy) (sm : DmaSem sig) (hsm : sm = semOf (.inl (.inr ())))
    (off : Fin 2 → ℕ) (hoff : off = ![8192 * c.val, 0]) (inb : ∀ a, off a + S8192x1024.size a ≤ S65536x1024.size a)
    {h₁ : sV.view.WordExact} {h₂}
    {h₃ : DmaTarget.Typed .vmem (.dma sm) (DmaTarget.here (nD := nD) (τ := τ) (p := .tc) (oH.slice (Rect.unit (s := S65536x1024) off S8192x1024.size inb) (fun _ => rfl)))}
    (h : StAt m K c (n + 1) ⊢ wp frame (wpE (defs₀ (F := F)) 𝒱₀ (c : Thread nD τ) none) Set.univ (k ⟨⟩) Q) :
    StAt m K c n ⊢ wp frame (wpE (defs₀ (F := F)) 𝒱₀ (c : Thread nD τ) none) Set.univ (.op (.enqueueDma sV (.here (oH.slice (Rect.unit (s := S65536x1024) off S8192x1024.size inb) (fun _ => rfl))) (.dma sm) h₁ h₂ h₃) k) Q := by
  subst hsm hoff
  have hok := ok_at n _ hev
  unfold StAt at h ⊢
  rw [confAt_succ n _ hev] at h
  generalize confAt n = s at h hok
  obtain ⟨hl, hcp⟩ := of_decide_eq_true hok
  unfold St at h ⊢
  dsimp only [Conf.apply] at h
  rw [hl, hcp]
  iintro ⟨#HR, #Hlev, HO, HU, HF, HH, HS, HW, HG, Hraw, Hldg, Hstg, Hloc, Hcp⟩
  ihave #HI := (inv_at m K c (.dma (semOf (.inl (.inr ()))))) $$ HR
  ihave #Hre := (reached_at m K c (.dma (semOf (.inl (.inr ()))))) $$ HR
  ihave Hloc := (eqv (loc_whole m c)) $$ Hloc
  ihave Hcp := (eqv (cpR_zero m c)) $$ Hcp
  icases Hcp with ⟨⟨%f, Ho⟩, Ht, Hat⟩
  iapply (copy_rule m K c f) $$ [Hloc Ho Ht]
  · isplitr; · iexact HI
    isplitl [Hloc]; · iexact Hloc
    isplitl [Ho]; · iexact Ho
    isplitl [Ht]; · iexact Ht
    iexact Hre
  iintro Hc
  iapply h
  isplitr; · iexact HR
  isplitr; · iexact Hlev
  isplitl [HO]; · iexact HO
  isplitl [HU]; · iexact HU
  isplitl [HF]; · iexact HF
  isplitl [HH]; · iexact HH
  isplitl [HS]; · iexact HS
  isplitl [HW]; · iexact HW
  isplitl [HG]; · iexact HG
  isplitl [Hraw]; · iexact Hraw
  isplitl [Hldg]; · iexact Hldg
  isplitl [Hstg]; · iexact Hstg
  isplitr
  · iapply (eqv (bigSep_empty (Φ := locR m c)).symm)
    iempintro
  iapply (eqv (cpR_one m c).symm)
  isplitl [Hc]; · iexact Hc
  iexact Hat

/-- Waiting for that copy. -/
theorem step_done {α : Type} {Q : α → sProp 𝕄} {k : PUnit → Prog (TpuEff nD τ sig (Elt F) Λ₀ .tc) α}
    (n : ℕ) (hev : script[n]? = some .done) (sm : DmaSem sig) (hsm : sm = semOf (.inl (.inr ())))
    {sp sp' : Space} {s s' : Shape} {e e' : EltTy} {src : Memref sig .tc sp' s' e'} {dst : Memref sig .tc sp s e}
    {h₁ : src.view.WordExact} {h₂ : dst.view.WordExact} (hN : dst.view.dmaCredit = nOwn)
    (h : StAt m K c (n + 1) ⊢ wp frame (wpE (defs₀ (F := F)) 𝒱₀ (c : Thread nD τ) none) Set.univ (k ⟨⟩) Q) :
    StAt m K c n ⊢ wp frame (wpE (defs₀ (F := F)) 𝒱₀ (c : Thread nD τ) none) Set.univ (.op (.waitDma2 sm src dst h₁ h₂) k) Q := by
  have hok := ok_at n _ hev
  unfold StAt at h ⊢
  rw [confAt_succ n _ hev] at h
  generalize confAt n = s at h hok
  obtain ⟨hl, hcp, hu⟩ := of_decide_eq_true hok
  unfold St at h ⊢
  dsimp only [Conf.apply] at h
  rw [hl, hcp]
  iintro ⟨#HR, #Hlev, ⟨%W, HO⟩, HU, HF, HH, HS, HW, HG, Hraw, Hldg, Hstg, -, Hcp⟩
  ihave Hcp := (eqv (cpR_one m c)) $$ Hcp
  icases Hcp with ⟨Hc, Hat⟩
  iapply (wait_dma m K c (.inl (.inr ())) sm hsm s.unsent (fun q hq => by rw [lv_own]; exact rlev_pos q.2) hN W) $$ [HO Hc Hat]
  · isplitr; · iexact HR
    isplitr; · iexact Hlev
    isplitl [HO]; · iexact HO
    isplitl [Hc]; · iexact Hc
    iexact Hat
  iintro HO Hz Hp
  ihave Hp := (eqv (show dmaPay m c (.inl (.inr ())) = iprop(oAt c (ownRect c).set fullShare (gathB m c) ∗ sAt c Finset.univ qLoc (stgB m c)) from rfl)) $$ Hp
  icases Hp with ⟨Ho, Hs⟩
  iapply h
  isplitr; · iexact HR
  isplitr; · iexact Hlev
  isplitl [HO]; · iexact HO
  isplitl [HU]; · iexact HU
  isplitl [HF]; · iexact HF
  isplitl [HH]; · iexact HH
  isplitl [HS]; · iexact HS
  isplitl [HW]; · iexact HW
  isplitl [HG]; · iexact HG
  isplitl [Hraw]; · iexact Hraw
  isplitl [Hldg]; · iexact Hldg
  isplitl [Hstg]; · iexact Hstg
  isplitl [Hs]
  · iapply (eqv (loc_whole m c).symm)
    iexact Hs
  iapply (eqv (cpR_two m c).symm)
  isplitl [Hz]; · iexact Hz
  iexact Ho

end Cert.Steps
-- ==== Proof.Start.lean ====
/-
# The barrier

A device signals its three neighbours, handing each the right to write the places of its result where the pieces from
that neighbour land, waits for three signals of its own, and so comes to the configuration the script starts from.
-/
module

public import proofs.«01_k».proof.Proof.Steps

@[expose] public section

noncomputable section

namespace Cert.Start

open Cert.KernelIdeal Cert.KernelIdeal.Gen Cert.Cube Cert.Geom Cert.Views Cert.Sched Cert.State Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × SemLoc sig → ℕ)
variable (c : Dev nD)

/-- The duties a piece's transfer pays, and the position on its send cell. -/
def payR (p : P) : sProp 𝕄 :=
  iprop(dutyTok ER (sendCell c p) 0 0 ∗ dutyTok ER (recvCell (tgt p c) p) 0 0 ∗ atPos ER (sendCell c p) 0 ∅ 0)

/-- What a device holds when it enters the kernel, apart from what it owes. -/
def initR : sProp 𝕄 :=
  iprop((bigSep Finset.univ fun d : Fin 3 => dutyTok ER (barCell (nbr d c)) 0 d) ∗ atPos ER (barCell c) 0 ∅ 0 ∗ cred (tallyAt (barCell c) () 3)
    ∗ bigSep Finset.univ (spotR (F := F) c) ∗ bigSep Finset.univ (payR (F := F) c) ∗ bigSep Finset.univ (waitR (F := F) c)
    ∗ bigSep Finset.univ (rawR m c) ∗ cpR m c 0)
/-- All of it. -/
def Init : sProp 𝕄 :=
  iprop(records m K ∗ levAts L lv ∗ (∃ W, owes (c : Thread nD τ) (due c Finset.univ + barDue c Finset.univ) W) ∗ initR m c)

/-- The pieces sorted by dimension. -/
theorem by_dim (Φ : P → sProp 𝕄) : bigSep Finset.univ Φ = bigSep Finset.univ fun d : Fin 3 => bigSep Finset.univ fun t : Fin 7 => Φ (along d t) := by
  rw [bigSep_univ_equiv byDim.symm Φ, bigSep_univ_prod]; rfl

theorem give (d : Fin 3) : (bigSep Finset.univ fun t : Fin 7 => spotR (F := F) c (along d t)) = barPay (nbr d c) d := by
  unfold barPay; rw [nbr_nbr]
/-- The places received are the places the pieces are sent to. -/
theorem taken : (bigSep Finset.univ fun d : Fin 3 => barPay (F := F) c d) = bigSep Finset.univ fun p : P => spotR (F := F) (tgt p c) p := by
  rw [by_dim]
  refine bigSep_congr fun d _ => ?_
  unfold barPay
  exact bigSep_congr fun t _ => by rw [tgt_along]

/-- A signal to the neighbour along dimension `d`. -/
theorem signal {α : Type} {Q : α → sProp 𝕄} {k : PUnit → Prog (TpuEff nD τ sig (Elt F) Λ₀ .tc) α}
    (d : Fin 3) (D : Finset (Fin 3)) (hd : d ∈ D) (n : Dev nD) (hn : n = nbr d c) (sm : Sem sig) (hsm : sm = barS) (a : ℕ) (ha : a = 1) (W : Waits sig Unit) :
    iprop(records m K ∗ owes (c : Thread nD τ) (due c Finset.univ + barDue c D) W ∗ dutyTok ER (barCell (nbr d c)) 0 d
        ∗ bigSep Finset.univ fun t : Fin 7 => spotR (F := F) c (along d t))
      ⊢ iprop((owes (c : Thread nD τ) (due c Finset.univ + barDue c (D.erase d)) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) sm a) k) Q) := by
  subst hn hsm ha
  have hO : due c Finset.univ + barDue c D = (due c Finset.univ + barDue c (D.erase d)) + tallyAt ((Dev.tc (nbr d c) : Thread nD τ), .reg barS) () 1 := by
    rw [add_assoc]; exact congrArg _ (Finset.sum_erase_add D _ hd).symm
  iintro ⟨#HR, HO, Ht, Hp⟩ Hk
  ihave #HI := (inv_at m K (nbr d c) (.reg barS)) $$ HR
  ihave #Hre := (reached_at m K (nbr d c) (.reg barS)) $$ HR
  ihave Hp := (eqv (give c d)) $$ Hp
  iapply (Rounds.wp_signal 𝒱₀ ER (rd m) (c : Thread nD τ) none (dst := (Dev.tc (nbr d c) : Thread nD τ)) (κ := K (nbr d c, .reg barS))
      (d := d) (by rw [duties_bar]; exact Finset.mem_univ _) (amount_bar m (nbr d c) d) () (due c Finset.univ + barDue c (D.erase d)) hO) $$ [HO Ht Hp]
  · isplitr; · iexact HI
    isplitl [HO]; · iexact HO
    isplitl [Ht]; · iexact Ht
    isplitl [Hp]; · rw [payload_bar]; iexact Hp
    iexact Hre
  iexact Hk

theorem fin3 (Φ : Fin 3 → sProp 𝕄) : bigSep Finset.univ Φ = iprop(Φ 0 ∗ Φ 1 ∗ Φ 2) :=
  bigSep_univ_eq_bigSepL [0, 1, 2] (by decide) (by decide) Φ

theorem barDue_none (S : Finset P) : due c S + barDue c ((((Finset.univ : Finset (Fin 3)).erase 0).erase 1).erase 2) = due c S := by
  rw [show (((Finset.univ : Finset (Fin 3)).erase 0).erase 1).erase 2 = ∅ by decide]; exact add_zero _

/-- The barrier, to the start of the script. -/
theorem barrier {α : Type} {Q : α → sProp 𝕄} {k : PUnit → Prog (TpuEff nD τ sig (Elt F) Λ₀ .tc) α}
    (n₀ n₁ n₂ : Dev nD) (h₀ : n₀ = nbr 0 c) (h₁ : n₁ = nbr 1 c) (h₂ : n₂ = nbr 2 c) (sm : Sem sig) (hsm : sm = barS) (a b : ℕ) (ha : a = 1) (hb : b = 3)
    (h : iprop(StAt m K c 0 ∗ semVal (barCell c) 0) ⊢ wp frame (wpE (defs₀ (F := F)) 𝒱₀ (c : Thread nD τ) none) Set.univ (k ⟨⟩) Q) :
    Init m K c ⊢ wp frame (wpE (defs₀ (F := F)) 𝒱₀ (c : Thread nD τ) none) Set.univ
      (.op (.semSignal (Dev.tc n₀ : Thread nD τ) sm a) fun _ => .op (.semSignal (Dev.tc n₁ : Thread nD τ) sm a) fun _ =>
        .op (.semSignal (Dev.tc n₂ : Thread nD τ) sm a) fun _ => .op (.semWait sm b) k) Q := by
  unfold Init initR
  iintro ⟨#HR, #Hlev, ⟨%W, HO⟩, Htok, Hat, Hc, Hspot, Hpay, Hwait, Hraw, Hcp⟩
  ihave Htok := (eqv (fin3 _)) $$ Htok
  icases Htok with ⟨Ht0, Ht1, Ht2⟩
  ihave Hspot := (eqv ((by_dim (spotR (F := F) c)).trans (fin3 _))) $$ Hspot
  icases Hspot with ⟨Hs0, Hs1, Hs2⟩
  iapply (signal m K c 0 Finset.univ (by decide) n₀ h₀ sm hsm a ha W) $$ [HO Ht0 Hs0]
  · isplitr; · iexact HR
    isplitl [HO]; · iexact HO
    isplitl [Ht0]; · iexact Ht0
    iexact Hs0
  iintro HO
  iapply (signal m K c 1 (Finset.univ.erase 0) (by decide) n₁ h₁ sm hsm a ha W) $$ [HO Ht1 Hs1]
  · isplitr; · iexact HR
    isplitl [HO]; · iexact HO
    isplitl [Ht1]; · iexact Ht1
    iexact Hs1
  iintro HO
  iapply (signal m K c 2 ((Finset.univ.erase 0).erase 1) (by decide) n₂ h₂ sm hsm a ha W) $$ [HO Ht2 Hs2]
  · isplitr; · iexact HR
    isplitl [HO]; · iexact HO
    isplitl [Ht2]; · iexact Ht2
    iexact Hs2
  iintro HO
  rw [barDue_none]
  subst hsm hb
  ihave #HI := (inv_at m K c (.reg barS)) $$ HR
  iapply (Rounds.wp_wait_rest_token 𝒱₀ ER (rd m) (c : Thread nD τ) none (κ := K (c, .reg barS))
      (wpE_semWait_eq 𝒱₀ (c : Thread nD τ) none Set.univ) (Set.mem_univ _) () (O := due c Finset.univ) (W := W) (R := 0) (m := 0) (T := ∅)
      (by rw [Nat.zero_add, expect_bar])) $$ [Hc HO Hat]
  · isplitr; · iexact HI
    isplitl [Hc]; · iexact Hc
    isplitl [HO]; · iexact HO
    isplitr
    · iapply (mayWait_due c (.reg barS) Finset.univ (fun q _ => rlev_gt q.2)); iexact Hlev
    iexact Hat
  iintro ⟨HO, Hat, -, Hp⟩
  ihave Hp := (eqv ((rest_bar m c).trans (taken c))) $$ Hp
  imod (Rounds.cell_close ER (rd m) (Set.mem_univ (K (c, .reg barS))) (fun h => h) (R := 0 + 1) (duties_later m (barCell c))) $$ [Hat] with Hz
  · isplitr; · iexact HI
    iexact Hat
  iapply h
  isplitr [Hz]
  · unfold StAt St
    rw [show confAt 0 = conf₀ from rfl]
    unfold conf₀
    dsimp only
    simp only [bigSep_empty]
    isplitr; · iexact HR
    isplitr; · iexact Hlev
    isplitl [HO]; · iexists _; iexact HO
    isplitl [Hp Hpay]
    · iapply (eqv (bigSep_sep' Finset.univ (fun p : P => spotR (F := F) (tgt p c) p) (payR (F := F) c)).symm)
      isplitl [Hp]; · iexact Hp
      iexact Hpay
    isplitr; · iempintro
    isplitr; · iempintro
    isplitr; · iempintro
    isplitl [Hwait]; · iexact Hwait
    isplitr; · iempintro
    isplitl [Hraw]; · iexact Hraw
    isplitr; · iempintro
    isplitr; · iempintro
    isplitr; · iempintro
    iexact Hcp
  · iexact Hz

end Cert.Start
-- ==== Proof.Parts.lean ====
/-
# The pieces of the kernel's text

The kernel's text is cut into pieces. Each takes the device from one place of the script to a later one, and is a chain
of the steps. The words a piece computes are not used: offsets and partners are read off the device's number.
-/
module

public import proofs.«01_k».proof.Proof.Start

@[expose] public section

set_option maxRecDepth 8000

noncomputable section

namespace Cert.Parts

open Cert.KernelIdeal Cert.KernelIdeal.Gen Cert.Cube Cert.Geom Cert.Views Cert.Sched Cert.State Cert.Steps Cert.Start

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)
variable (K : Dev nD × SemLoc sig → ℕ)
variable (c : Dev nD)

/-- A run of `p` by device `c` ends with `Q`. -/
abbrev Runs {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The end of a piece. -/
theorem stop {α : Type} (n : ℕ) (a : α) : StAt m K c n ⊢ Runs c (.ret a) (fun _ => StAt m K c n) := by
  unfold Runs; rw [wp_ret]; exact fupd_intro

/-- Two pieces in a row. -/
theorem seq {α β : Type} {A : sProp 𝕄} {p : Prog (TpuEff nD τ sig (Elt F) Λ₀ .tc) α} {k : α → Prog (TpuEff nD τ sig (Elt F) Λ₀ .tc) β}
    {n : ℕ} {Q : β → sProp 𝕄} (h : A ⊢ Runs c p (fun _ => StAt m K c n)) (h' : ∀ a, StAt m K c n ⊢ Runs c (k a) Q) : A ⊢ Runs c (p >>= k) Q := by
  unfold Runs
  rw [wp_bind]
  exact h.trans (wp_mono _ _ _ h')

theorem pay1 (v : Vec F S2720x1024 .f32) : k0_pay1 v = fun x => FloatOps.truncf .bf16 Gen.bitsLt_bf16_f32 (v x) := shapeCast_self _ _
theorem pay2 (v : Vec F S2720x1024 .f32) : k0_pay2 v = fun x => FloatOps.truncf .bf16 Gen.bitsLt_bf16_f32 (v x) := shapeCast_self _ _
theorem pay3 (v : Vec F S2752x1024 .f32) : k0_pay3 v = fun x => FloatOps.truncf .bf16 Gen.bitsLt_bf16_f32 (v x) := shapeCast_self _ _

section
variable (a₀ : (Memref.whole main_arg0).IsWhole) (a₁ : (Memref.whole main_v1).IsWhole) (a₂ : (Memref.whole cc0_scratch0).IsWhole) (a₃ : (Memref.whole cc0_scratch1).IsWhole)

theorem part3 (w₁ w₂ w₃ : BitVec 32) : StAt m K c 1 ⊢ Runs c (k0_part3 (F := F) (.whole main_arg0) a₀ (.whole main_v1) a₁ (.whole cc0_scratch0) a₂ (.whole cc0_scratch1) a₃ cc0_scratch2 cc0_scratch3 cc0_scratch4 cc0_scratch5 w₁ w₂ w₃) (fun _ => StAt m K c 4) := by
  rw [k0_part3_eq_skeleton]; unfold k0_part3_skel
  simp only [Prog.lift, Prog.bind_op, Prog.bind_ret, Prog.pure_eq_ret]
  refine step_load m K c 1 1 rfl _ (by decide +kernel) ?_
  refine step_load m K c 2 2 rfl _ (by decide +kernel) ?_
  refine step_stage m K c 3 0 rfl _ (by decide +kernel) rfl k0_pay1 pay1 ?_
  exact stop m K c _ _

theorem part4 (w₁ w₂ w₃ w₄ w₅ w₆ : BitVec 32) : StAt m K c 4 ⊢ Runs c (k0_part4 (F := F) (.whole main_arg0) a₀ (.whole main_v1) a₁ (.whole cc0_scratch0) a₂ (.whole cc0_scratch1) a₃ cc0_scratch2 cc0_scratch3 cc0_scratch4 cc0_scratch5 c w₁ w₂ w₃ w₄ w₅ w₆) (fun _ => StAt m K c 5) := by
  rw [k0_part4_eq_skeleton]; unfold k0_part4_skel
  simp only [Prog.lift, Prog.bind_op, Prog.bind_ret, Prog.pure_eq_ret]
  refine step_own m K c 4 (0, 0) rfl rfl _ (by revert c; decide +kernel) _ _ (by decide +kernel) (by decide +kernel) _ (by revert c; decide +kernel) _ ?_
  exact stop m K c _ _

theorem part5 (w₁ w₂ w₃ w₄ w₅ w₆ : BitVec 32) : StAt m K c 5 ⊢ Runs c (k0_part5 (F := F) (.whole main_arg0) a₀ (.whole main_v1) a₁ (.whole cc0_scratch0) a₂ (.whole cc0_scratch1) a₃ cc0_scratch2 cc0_scratch3 cc0_scratch4 cc0_scratch5 c w₁ w₂ w₃ w₄ w₅ w₆) (fun _ => StAt m K c 6) := by
  rw [k0_part5_eq_skeleton]; unfold k0_part5_skel
  simp only [Prog.lift, Prog.bind_op, Prog.bind_ret, Prog.pure_eq_ret]
  refine step_own m K c 5 (0, 1) rfl rfl _ (by revert c; decide +kernel) _ _ (by decide +kernel) (by decide +kernel) _ (by revert c; decide +kernel) _ ?_
  exact stop m K c _ _

theorem part6 (w₁ w₂ w₃ w₄ : BitVec 32) : StAt m K c 6 ⊢ Runs c (k0_part6 (F := F) (.whole main_arg0) a₀ (.whole main_v1) a₁ (.whole cc0_scratch0) a₂ (.whole cc0_scratch1) a₃ cc0_scratch2 cc0_scratch3 cc0_scratch4 cc0_scratch5 c w₁ w₂ w₃ w₄) (fun _ => StAt m K c 8) := by
  rw [k0_part6_eq_skeleton]; unfold k0_part6_skel
  simp only [Prog.lift, Prog.bind_op, Prog.bind_ret, Prog.pure_eq_ret]
  refine step_own m K c 6 (0, 3) rfl rfl _ (by revert c; decide +kernel) _ _ (by decide +kernel) (by decide +kernel) _ (by revert c; decide +kernel) _ ?_
  refine step_stage m K c 7 1 rfl _ (by decide +kernel) rfl k0_pay2 pay2 ?_
  exact stop m K c _ _

theorem part7 (w₁ w₂ w₃ w₄ w₅ : BitVec 32) : StAt m K c 8 ⊢ Runs c (k0_part7 (F := F) (.whole main_arg0) a₀ (.whole main_v1) a₁ (.whole cc0_scratch0) a₂ (.whole cc0_scratch1) a₃ cc0_scratch2 cc0_scratch3 cc0_scratch4 cc0_scratch5 c w₁ w₂ w₃ w₄ w₅) (fun _ => StAt m K c 9) := by
  rw [k0_part7_eq_skeleton]; unfold k0_part7_skel
  simp only [Prog.lift, Prog.bind_op, Prog.bind_ret, Prog.pure_eq_ret]
  refine step_own m K c 8 (1, 0) rfl rfl _ (by revert c; decide +kernel) _ _ (by decide +kernel) (by decide +kernel) _ (by revert c; decide +kernel) _ ?_
  exact stop m K c _ _

theorem part8 (w₁ w₂ w₃ w₄ : BitVec 32) : StAt m K c 9 ⊢ Runs c (k0_part8 (F := F) (.whole main_arg0) a₀ (.whole main_v1) a₁ (.whole cc0_scratch0) a₂ (.whole cc0_scratch1) a₃ cc0_scratch2 cc0_scratch3 cc0_scratch4 cc0_scratch5 c w₁ w₂ w₃ w₄) (fun _ => StAt m K c 10) := by
  rw [k0_part8_eq_skeleton]; unfold k0_part8_skel
  simp only [Prog.lift, Prog.bind_op, Prog.bind_ret, Prog.pure_eq_ret]
  refine step_own m K c 9 (1, 1) rfl rfl _ (by revert c; decide +kernel) _ _ (by decide +kernel) (by decide +kernel) _ (by revert c; decide +kernel) _ ?_
  exact stop m K c _ _

theorem part9 (w₁ w₂ w₃ : BitVec 32) : StAt m K c 10 ⊢ Runs c (k0_part9 (F := F) (.whole main_arg0) a₀ (.whole main_v1) a₁ (.whole cc0_scratch0) a₂ (.whole cc0_scratch1) a₃ cc0_scratch2 cc0_scratch3 cc0_scratch4 cc0_scratch5 c w₁ w₂ w₃) (fun _ => StAt m K c 12) := by
  rw [k0_part9_eq_skeleton]; unfold k0_part9_skel
  simp only [Prog.lift, Prog.bind_op, Prog.bind_ret, Prog.pure_eq_ret]
  refine step_own m K c 10 (1, 3) rfl rfl _ (by revert c; decide +kernel) _ _ (by decide +kernel) (by decide +kernel) _ (by revert c; decide +kernel) _ ?_
  refine step_stage m K c 11 2 rfl _ (by decide +kernel) rfl k0_pay3 pay3 ?_
  exact stop m K c _ _

theorem part10 (w₁ w₂ w₃ w₄ w₅ w₆ : BitVec 32) : StAt m K c 12 ⊢ Runs c (k0_part10 (F := F) (.whole main_arg0) a₀ (.whole main_v1) a₁ (.whole cc0_scratch0) a₂ (.whole cc0_scratch1) a₃ cc0_scratch2 cc0_scratch3 cc0_scratch4 cc0_scratch5 c w₁ w₂ w₃ w₄ w₅ w₆) (fun _ => StAt m K c 13) := by
  rw [k0_part10_eq_skeleton]; unfold k0_part10_skel
  simp only [Prog.lift, Prog.bind_op, Prog.bind_ret, Prog.pure_eq_ret]
  refine step_own m K c 12 (2, 0) rfl rfl _ (by revert c; decide +kernel) _ _ (by decide +kernel) (by decide +kernel) _ (by revert c; decide +kernel) _ ?_
  exact stop m K c _ _

theorem part11 (w₁ w₂ w₃ w₄ : BitVec 32) : StAt m K c 13 ⊢ Runs c (k0_part11 (F := F) (.whole main_arg0) a₀ (.whole main_v1) a₁ (.whole cc0_scratch0) a₂ (.whole cc0_scratch1) a₃ cc0_scratch2 cc0_scratch3 cc0_scratch4 cc0_scratch5 c w₁ w₂ w₃ w₄) (fun _ => StAt m K c 14) := by
  rw [k0_part11_eq_skeleton]; unfold k0_part11_skel
  simp only [Prog.lift, Prog.bind_op, Prog.bind_ret, Prog.pure_eq_ret]
  refine step_own m K c 13 (2, 1) rfl rfl _ (by revert c; decide +kernel) _ _ (by decide +kernel) (by decide +kernel) _ (by revert c; decide +kernel) _ ?_
  exact stop m K c _ _

theorem part12 (w₁ w₂ w₃ w₄ w₅ : BitVec 32) : StAt m K c 14 ⊢ Runs c (k0_part12 (F := F) (.whole main_arg0) a₀ (.whole main_v1) a₁ (.whole cc0_scratch0) a₂ (.whole cc0_scratch1) a₃ cc0_scratch2 cc0_scratch3 cc0_scratch4 cc0_scratch5 c w₁ w₂ w₃ w₄ w₅) (fun _ => StAt m K c 17) := by
  rw [k0_part12_eq_skeleton]; unfold k0_part12_skel
  simp only [Prog.lift, Prog.bind_op, Prog.bind_ret, Prog.pure_eq_ret]
  refine step_own m K c 14 (2, 3) rfl rfl _ (by revert c; decide +kernel) _ _ (by decide +kernel) (by decide +kernel) _ (by revert c; decide +kernel) _ ?_
  refine step_copy m K c 15 rfl _ (by decide +kernel) _ (by revert c; decide +kernel) _ ?_
  refine step_recv m K c 16 (0, 0) rfl _ (by decide +kernel) rfl ?_
  exact stop m K c _ _

theorem part13 (w₁ w₂ w₃ w₄ : BitVec 32) : StAt m K c 17 ⊢ Runs c (k0_part13 (F := F) (.whole main_arg0) a₀ (.whole main_v1) a₁ (.whole cc0_scratch0) a₂ (.whole cc0_scratch1) a₃ cc0_scratch2 cc0_scratch3 cc0_scratch4 cc0_scratch5 c w₁ w₂ w₃ w₄) (fun _ => StAt m K c 18) := by
  rw [k0_part13_eq_skeleton]; unfold k0_part13_skel
  simp only [Prog.lift, Prog.bind_op, Prog.bind_ret, Prog.pure_eq_ret]
  refine step_fwd m K c 17 (0, 2) rfl rfl _ (by revert c; decide +kernel) _ _ (by decide +kernel) (by decide +kernel) _ (by revert c; decide +kernel) _ ?_
  exact stop m K c _ _

theorem part14 (w₁ w₂ w₃ w₄ : BitVec 32) : StAt m K c 18 ⊢ Runs c (k0_part14 (F := F) (.whole main_arg0) a₀ (.whole main_v1) a₁ (.whole cc0_scratch0) a₂ (.whole cc0_scratch1) a₃ cc0_scratch2 cc0_scratch3 cc0_scratch4 cc0_scratch5 c w₁ w₂ w₃ w₄) (fun _ => StAt m K c 20) := by
  rw [k0_part14_eq_skeleton]; unfold k0_part14_skel
  simp only [Prog.lift, Prog.bind_op, Prog.bind_ret, Prog.pure_eq_ret]
  refine step_fwd m K c 18 (0, 4) rfl rfl _ (by revert c; decide +kernel) _ _ (by decide +kernel) (by decide +kernel) _ (by revert c; decide +kernel) _ ?_
  refine step_recv m K c 19 (1, 0) rfl _ (by decide +kernel) rfl ?_
  exact stop m K c _ _

theorem part15 (w₁ w₂ w₃ w₄ : BitVec 32) : StAt m K c 20 ⊢ Runs c (k0_part15 (F := F) (.whole main_arg0) a₀ (.whole main_v1) a₁ (.whole cc0_scratch0) a₂ (.whole cc0_scratch1) a₃ cc0_scratch2 cc0_scratch3 cc0_scratch4 cc0_scratch5 c w₁ w₂ w₃ w₄) (fun _ => StAt m K c 21) := by
  rw [k0_part15_eq_skeleton]; unfold k0_part15_skel
  simp only [Prog.lift, Prog.bind_op, Prog.bind_ret, Prog.pure_eq_ret]
  refine step_fwd m K c 20 (1, 2) rfl rfl _ (by revert c; decide +kernel) _ _ (by decide +kernel) (by decide +kernel) _ (by revert c; decide +kernel) _ ?_
  exact stop m K c _ _

theorem part16 (w₁ w₂ w₃ w₄ : BitVec 32) : StAt m K c 21 ⊢ Runs c (k0_part16 (F := F) (.whole main_arg0) a₀ (.whole main_v1) a₁ (.whole cc0_scratch0) a₂ (.whole cc0_scratch1) a₃ cc0_scratch2 cc0_scratch3 cc0_scratch4 cc0_scratch5 c w₁ w₂ w₃ w₄) (fun _ => StAt m K c 23) := by
  rw [k0_part16_eq_skeleton]; unfold k0_part16_skel
  simp only [Prog.lift, Prog.bind_op, Prog.bind_ret, Prog.pure_eq_ret]
  refine step_fwd m K c 21 (1, 4) rfl rfl _ (by revert c; decide +kernel) _ _ (by decide +kernel) (by decide +kernel) _ (by revert c; decide +kernel) _ ?_
  refine step_recv m K c 22 (2, 0) rfl _ (by decide +kernel) rfl ?_
  exact stop m K c _ _

theorem part17 (w₁ w₂ w₃ w₄ w₅ : BitVec 32) : StAt m K c 23 ⊢ Runs c (k0_part17 (F := F) (.whole main_arg0) a₀ (.whole main_v1) a₁ (.whole cc0_scratch0) a₂ (.whole cc0_scratch1) a₃ cc0_scratch2 cc0_scratch3 cc0_scratch4 cc0_scratch5 c w₁ w₂ w₃ w₄ w₅) (fun _ => StAt m K c 24) := by
  rw [k0_part17_eq_skeleton]; unfold k0_part17_skel
  simp only [Prog.lift, Prog.bind_op, Prog.bind_ret, Prog.pure_eq_ret]
  refine step_fwd m K c 23 (2, 2) rfl rfl _ (by revert c; decide +kernel) _ _ (by decide +kernel) (by decide +kernel) _ (by revert c; decide +kernel) _ ?_
  exact stop m K c _ _

theorem part18 (w₁ w₂ w₃ w₄ w₅ : BitVec 32) : StAt m K c 24 ⊢ Runs c (k0_part18 (F := F) (.whole main_arg0) a₀ (.whole main_v1) a₁ (.whole cc0_scratch0) a₂ (.whole cc0_scratch1) a₃ cc0_scratch2 cc0_scratch3 cc0_scratch4 cc0_scratch5 c w₁ w₂ w₃ w₄ w₅) (fun _ => StAt m K c 27) := by
  rw [k0_part18_eq_skeleton]; unfold k0_part18_skel
  simp only [Prog.lift, Prog.bind_op, Prog.bind_ret, Prog.pure_eq_ret]
  refine step_fwd m K c 24 (2, 4) rfl rfl _ (by revert c; decide +kernel) _ _ (by decide +kernel) (by decide +kernel) _ (by revert c; decide +kernel) _ ?_
  refine step_recv m K c 25 (0, 1) rfl _ (by decide +kernel) rfl ?_
  refine step_recv m K c 26 (0, 2) rfl _ (by decide +kernel) rfl ?_
  exact stop m K c _ _

theorem part19 (w₁ w₂ w₃ w₄ w₅ w₆ w₇ : BitVec 32) : StAt m K c 27 ⊢ Runs c (k0_part19 (F := F) (.whole main_arg0) a₀ (.whole main_v1) a₁ (.whole cc0_scratch0) a₂ (.whole cc0_scratch1) a₃ cc0_scratch2 cc0_scratch3 cc0_scratch4 cc0_scratch5 c w₁ w₂ w₃ w₄ w₅ w₆ w₇) (fun _ => StAt m K c 28) := by
  rw [k0_part19_eq_skeleton]; unfold k0_part19_skel
  simp only [Prog.lift, Prog.bind_op, Prog.bind_ret, Prog.pure_eq_ret]
  refine step_fwd m K c 27 (0, 5) rfl rfl _ (by revert c; decide +kernel) _ _ (by decide +kernel) (by decide +kernel) _ (by revert c; decide +kernel) _ ?_
  exact stop m K c _ _

theorem part20 (w₁ w₂ w₃ w₄ w₅ w₆ : BitVec 32) : StAt m K c 28 ⊢ Runs c (k0_part20 (F := F) (.whole main_arg0) a₀ (.whole main_v1) a₁ (.whole cc0_scratch0) a₂ (.whole cc0_scratch1) a₃ cc0_scratch2 cc0_scratch3 cc0_scratch4 cc0_scratch5 c w₁ w₂ w₃ w₄ w₅ w₆) (fun _ => StAt m K c 31) := by
  rw [k0_part20_eq_skeleton]; unfold k0_part20_skel
  simp only [Prog.lift, Prog.bind_op, Prog.bind_ret, Prog.pure_eq_ret]
  refine step_fwd m K c 28 (0, 6) rfl rfl _ (by revert c; decide +kernel) _ _ (by decide +kernel) (by decide +kernel) _ (by revert c; decide +kernel) _ ?_
  refine step_recv m K c 29 (1, 1) rfl _ (by decide +kernel) rfl ?_
  refine step_recv m K c 30 (1, 2) rfl _ (by decide +kernel) rfl ?_
  exact stop m K c _ _

theorem part21 (w₁ w₂ w₃ w₄ w₅ w₆ : BitVec 32) : StAt m K c 31 ⊢ Runs c (k0_part21 (F := F) (.whole main_arg0) a₀ (.whole main_v1) a₁ (.whole cc0_scratch0) a₂ (.whole cc0_scratch1) a₃ cc0_scratch2 cc0_scratch3 cc0_scratch4 cc0_scratch5 c w₁ w₂ w₃ w₄ w₅ w₆) (fun _ => StAt m K c 32) := by
  rw [k0_part21_eq_skeleton]; unfold k0_part21_skel
  simp only [Prog.lift, Prog.bind_op, Prog.bind_ret, Prog.pure_eq_ret]
  refine step_fwd m K c 31 (1, 5) rfl rfl _ (by revert c; decide +kernel) _ _ (by decide +kernel) (by decide +kernel) _ (by revert c; decide +kernel) _ ?_
  exact stop m K c _ _

theorem part22 (w₁ w₂ w₃ w₄ w₅ w₆ : BitVec 32) : StAt m K c 32 ⊢ Runs c (k0_part22 (F := F) (.whole main_arg0) a₀ (.whole main_v1) a₁ (.whole cc0_scratch0) a₂ (.whole cc0_scratch1) a₃ cc0_scratch2 cc0_scratch3 cc0_scratch4 cc0_scratch5 c w₁ w₂ w₃ w₄ w₅ w₆) (fun _ => StAt m K c 35) := by
  rw [k0_part22_eq_skeleton]; unfold k0_part22_skel
  simp only [Prog.lift, Prog.bind_op, Prog.bind_ret, Prog.pure_eq_ret]
  refine step_fwd m K c 32 (1, 6) rfl rfl _ (by revert c; decide +kernel) _ _ (by decide +kernel) (by decide +kernel) _ (by revert c; decide +kernel) _ ?_
  refine step_recv m K c 33 (2, 1) rfl _ (by decide +kernel) rfl ?_
  refine step_recv m K c 34 (2, 2) rfl _ (by decide +kernel) rfl ?_
  exact stop m K c _ _

theorem part23 (w₁ w₂ w₃ : BitVec 32) : StAt m K c 35 ⊢ Runs c (k0_part23 (F := F) (.whole main_arg0) a₀ (.whole main_v1) a₁ (.whole cc0_scratch0) a₂ (.whole cc0_scratch1) a₃ cc0_scratch2 cc0_scratch3 cc0_scratch4 cc0_scratch5 c w₁ w₂ w₃) (fun _ => StAt m K c 36) := by
  rw [k0_part23_eq_skeleton]; unfold k0_part23_skel
  simp only [Prog.lift, Prog.bind_op, Prog.bind_ret, Prog.pure_eq_ret]
  refine step_fwd m K c 35 (2, 5) rfl rfl _ (by revert c; decide +kernel) _ _ (by decide +kernel) (by decide +kernel) _ (by revert c; decide +kernel) _ ?_
  exact stop m K c _ _

theorem part24 (w₁ w₂ w₃ w₄ w₅ w₆ : BitVec 32) : StAt m K c 36 ⊢ Runs c (k0_part24 (F := F) (.whole main_arg0) a₀ (.whole main_v1) a₁ (.whole cc0_scratch0) a₂ (.whole cc0_scratch1) a₃ cc0_scratch2 cc0_scratch3 cc0_scratch4 cc0_scratch5 c w₁ w₂ w₃ w₄ w₅ w₆) (fun _ => StAt m K c 38) := by
  rw [k0_part24_eq_skeleton]; unfold k0_part24_skel
  simp only [Prog.lift, Prog.bind_op, Prog.bind_ret, Prog.pure_eq_ret]
  refine step_fwd m K c 36 (2, 6) rfl rfl _ (by revert c; decide +kernel) _ _ (by decide +kernel) (by decide +kernel) _ (by revert c; decide +kernel) _ ?_
  refine step_recv m K c 37 (0, 3) rfl _ (by decide +kernel) rfl ?_
  exact stop m K c _ _

theorem part25 (w₁ w₂ w₃ w₄ : BitVec 32) : StAt m K c 38 ⊢ Runs c (k0_part25 (F := F) (.whole main_arg0) a₀ (.whole main_v1) a₁ (.whole cc0_scratch0) a₂ (.whole cc0_scratch1) a₃ cc0_scratch2 cc0_scratch3 cc0_scratch4 cc0_scratch5 c w₁ w₂ w₃ w₄) (fun _ => StAt m K c 42) := by
  rw [k0_part25_eq_skeleton]; unfold k0_part25_skel
  simp only [Prog.lift, Prog.bind_op, Prog.bind_ret, Prog.pure_eq_ret]
  refine step_recv m K c 38 (0, 4) rfl _ (by decide +kernel) rfl ?_
  refine step_recv m K c 39 (0, 5) rfl _ (by decide +kernel) rfl ?_
  refine step_recv m K c 40 (0, 6) rfl _ (by decide +kernel) rfl ?_
  refine step_recv m K c 41 (1, 3) rfl _ (by decide +kernel) rfl ?_
  exact stop m K c _ _

theorem part26 (w₁ w₂ w₃ w₄ : BitVec 32) : StAt m K c 42 ⊢ Runs c (k0_part26 (F := F) (.whole main_arg0) a₀ (.whole main_v1) a₁ (.whole cc0_scratch0) a₂ (.whole cc0_scratch1) a₃ cc0_scratch2 cc0_scratch3 cc0_scratch4 cc0_scratch5 c w₁ w₂ w₃ w₄) (fun _ => StAt m K c 46) := by
  rw [k0_part26_eq_skeleton]; unfold k0_part26_skel
  simp only [Prog.lift, Prog.bind_op, Prog.bind_ret, Prog.pure_eq_ret]
  refine step_recv m K c 42 (1, 4) rfl _ (by decide +kernel) rfl ?_
  refine step_recv m K c 43 (1, 5) rfl _ (by decide +kernel) rfl ?_
  refine step_recv m K c 44 (1, 6) rfl _ (by decide +kernel) rfl ?_
  refine step_recv m K c 45 (2, 3) rfl _ (by decide +kernel) rfl ?_
  exact stop m K c _ _

theorem part27 (w₁ w₂ w₃ : BitVec 32) : StAt m K c 46 ⊢ Runs c (k0_part27 (F := F) (.whole main_arg0) a₀ (.whole main_v1) a₁ (.whole cc0_scratch0) a₂ (.whole cc0_scratch1) a₃ cc0_scratch2 cc0_scratch3 cc0_scratch4 cc0_scratch5 c w₁ w₂ w₃) (fun _ => StAt m K c 50) := by
  rw [k0_part27_eq_skeleton]; unfold k0_part27_skel
  simp only [Prog.lift, Prog.bind_op, Prog.bind_ret, Prog.pure_eq_ret]
  refine step_recv m K c 46 (2, 4) rfl _ (by decide +kernel) rfl ?_
  refine step_recv m K c 47 (2, 5) rfl _ (by decide +kernel) rfl ?_
  refine step_recv m K c 48 (2, 6) rfl _ (by decide +kernel) rfl ?_
  refine step_back m K c 49 (0, 0) rfl _ (by decide +kernel) rfl ?_
  exact stop m K c _ _

theorem part28 : StAt m K c 50 ⊢ Runs c (k0_part28 (F := F) (.whole main_arg0) a₀ (.whole main_v1) a₁ (.whole cc0_scratch0) a₂ (.whole cc0_scratch1) a₃ cc0_scratch2 cc0_scratch3 cc0_scratch4 cc0_scratch5 c) (fun _ => StAt m K c 54) := by
  rw [k0_part28_eq_skeleton]; unfold k0_part28_skel
  simp only [Prog.lift, Prog.bind_op, Prog.bind_ret, Prog.pure_eq_ret]
  refine step_back m K c 50 (0, 1) rfl _ (by decide +kernel) rfl ?_
  refine step_back m K c 51 (0, 3) rfl _ (by decide +kernel) rfl ?_
  refine step_back m K c 52 (1, 0) rfl _ (by decide +kernel) rfl ?_
  refine step_back m K c 53 (1, 1) rfl _ (by decide +kernel) rfl ?_
  exact stop m K c _ _

theorem part29 : StAt m K c 54 ⊢ Runs c (k0_part29 (F := F) (.whole main_arg0) a₀ (.whole main_v1) a₁ (.whole cc0_scratch0) a₂ (.whole cc0_scratch1) a₃ cc0_scratch2 cc0_scratch3 cc0_scratch4 cc0_scratch5 c) (fun _ => StAt m K c 59) := by
  rw [k0_part29_eq_skeleton]; unfold k0_part29_skel
  simp only [Prog.lift, Prog.bind_op, Prog.bind_ret, Prog.pure_eq_ret]
  refine step_back m K c 54 (1, 3) rfl _ (by decide +kernel) rfl ?_
  refine step_back m K c 55 (2, 0) rfl _ (by decide +kernel) rfl ?_
  refine step_back m K c 56 (2, 1) rfl _ (by decide +kernel) rfl ?_
  refine step_back m K c 57 (2, 3) rfl _ (by decide +kernel) rfl ?_
  refine step_back m K c 58 (0, 2) rfl _ (by decide +kernel) rfl ?_
  exact stop m K c _ _

theorem part30 : StAt m K c 59 ⊢ Runs c (k0_part30 (F := F) (.whole main_arg0) a₀ (.whole main_v1) a₁ (.whole cc0_scratch0) a₂ (.whole cc0_scratch1) a₃ cc0_scratch2 cc0_scratch3 cc0_scratch4 cc0_scratch5 c) (fun _ => StAt m K c 64) := by
  rw [k0_part30_eq_skeleton]; unfold k0_part30_skel
  simp only [Prog.lift, Prog.bind_op, Prog.bind_ret, Prog.pure_eq_ret]
  refine step_back m K c 59 (0, 4) rfl _ (by decide +kernel) rfl ?_
  refine step_back m K c 60 (1, 2) rfl _ (by decide +kernel) rfl ?_
  refine step_back m K c 61 (1, 4) rfl _ (by decide +kernel) rfl ?_
  refine step_back m K c 62 (2, 2) rfl _ (by decide +kernel) rfl ?_
  refine step_back m K c 63 (2, 4) rfl _ (by decide +kernel) rfl ?_
  exact stop m K c _ _

theorem part31 : StAt m K c 64 ⊢ Runs c (k0_part31 (F := F) (.whole main_arg0) a₀ (.whole main_v1) a₁ (.whole cc0_scratch0) a₂ (.whole cc0_scratch1) a₃ cc0_scratch2 cc0_scratch3 cc0_scratch4 cc0_scratch5 c) (fun _ => StAt m K c 69) := by
  rw [k0_part31_eq_skeleton]; unfold k0_part31_skel
  simp only [Prog.lift, Prog.bind_op, Prog.bind_ret, Prog.pure_eq_ret]
  refine step_back m K c 64 (0, 5) rfl _ (by decide +kernel) rfl ?_
  refine step_back m K c 65 (0, 6) rfl _ (by decide +kernel) rfl ?_
  refine step_back m K c 66 (1, 5) rfl _ (by decide +kernel) rfl ?_
  refine step_back m K c 67 (1, 6) rfl _ (by decide +kernel) rfl ?_
  refine step_back m K c 68 (2, 5) rfl _ (by decide +kernel) rfl ?_
  exact stop m K c _ _

end

end Cert.Parts
-- ==== Proof.Body.lean ====
/-
# The kernel's body

The body on a device, from what the device holds when it enters to the end of the script.
-/
module

public import proofs.«01_k».proof.Proof.Parts

@[expose] public section

set_option maxRecDepth 8000

noncomputable section

namespace Cert.Body

open Cert.KernelIdeal Cert.KernelIdeal.Gen Cert.Cube Cert.Geom Cert.Views Cert.Sched Cert.State Cert.Steps Cert.Start Cert.Parts

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)
variable (K : Dev nD × SemLoc sig → ℕ)
variable (c : Dev nD)
variable (a₀ : (Memref.whole main_arg0).IsWhole) (a₁ : (Memref.whole main_v1).IsWhole) (a₂ : (Memref.whole cc0_scratch0).IsWhole) (a₃ : (Memref.whole cc0_scratch1).IsWhole)

/-- The first piece only computes: the device's number, words, and the barrier semaphore. -/
theorem part1 {β : Type} (A : sProp 𝕄) (Q : β → sProp 𝕄)
    (k : (Σ' (d0 : Dev nD) (v2 : BitVec 32) (v6 : BitVec 32) (v7 : BitVec 32) (v24 : BitVec 32), Sems sig S_) → Prog (TpuEff nD τ sig (Elt F) Λ₀ .tc) β)
    (h : ∀ w₁ w₂ w₃ w₄, A ⊢ Runs c (k ⟨c, w₁, w₂, w₃, w₄, SemArray.scalar (sig.barrier 0 rfl)⟩) Q) :
    A ⊢ Runs c (k0_part1 (F := F) (.whole main_arg0) a₀ (.whole main_v1) a₁ (.whole cc0_scratch0) a₂ (.whole cc0_scratch1) a₃ cc0_scratch2 cc0_scratch3 cc0_scratch4 cc0_scratch5 >>= k) Q := by
  rw [k0_part1_eq_skeleton]; unfold k0_part1_skel Runs
  simp only [Prog.lift, Prog.bind_op, Prog.bind_ret, Prog.pure_eq_ret, wp_deviceId]
  exact h _ _ _ _

/-- The second signals the neighbours, waits for them, and starts the first load. -/
theorem part2 (w₁ w₂ w₃ : BitVec 32) :
    Init m K c ⊢ Runs c (k0_part2 (F := F) (.whole main_arg0) a₀ (.whole main_v1) a₁ (.whole cc0_scratch0) a₂ (.whole cc0_scratch1) a₃ cc0_scratch2 cc0_scratch3 cc0_scratch4 cc0_scratch5 c w₁ w₂ w₃ (SemArray.scalar (sig.barrier 0 rfl))) (fun _ => iprop(StAt m K c 1 ∗ semVal (barCell c) 0)) := by
  rw [k0_part2_eq_skeleton]; unfold k0_part2_skel
  simp only [semSignalWord, semWaitWord, Prog.lift, Prog.bind_op, Prog.bind_ret, Prog.pure_eq_ret]
  refine barrier m K c _ _ _ (by revert c; decide +kernel) (by revert c; decide +kernel) (by revert c; decide +kernel) _ rfl _ _ rfl rfl ?_
  refine Idealize.SL.BI.BIBase.Entails.trans ?_ (wp_frame_r _ _ _)
  iintro ⟨H, Hz⟩
  isplitl [H]
  · iapply (step_load m K c 0 0 rfl _ (by decide +kernel) (stop m K c _ _)); iexact H
  · iexact Hz

/-- The body. -/
theorem body_run : Init m K c ⊢ Runs c (cc0_body (F := F) (.whole main_arg0) a₀ (.whole main_v1) a₁ (.whole cc0_scratch0) a₂ (.whole cc0_scratch1) a₃ cc0_scratch2 cc0_scratch3 cc0_scratch4 cc0_scratch5) (fun _ => iprop(StAt m K c 71 ∗ semVal (barCell c) 0)) := by
  rw [cc0_body_eq_skeleton]; unfold cc0_body_skel
  refine part1 c a₀ a₁ a₂ a₃ _ _ _ fun w₁ w₂ w₃ w₄ => ?_
  unfold Runs
  dsimp only
  rw [wp_bind]
  refine Idealize.SL.BI.BIBase.Entails.trans (part2 m K c a₀ a₁ a₂ a₃ w₂ w₃ w₄) (wp_mono _ _ _ fun _ => ?_)
  refine Idealize.SL.BI.BIBase.Entails.trans (sep_mono_left ?_) (wp_frame_r _ _ _)
  refine seq m K c (part3 m K c a₀ a₁ a₂ a₃ _ _ _) fun ⟨_, _, _⟩ => ?_
  refine seq m K c (part4 m K c a₀ a₁ a₂ a₃ _ _ _ _ _ _) fun ⟨_, _, _, _⟩ => ?_
  refine seq m K c (part5 m K c a₀ a₁ a₂ a₃ _ _ _ _ _ _) fun ⟨_, _, _⟩ => ?_
  refine seq m K c (part6 m K c a₀ a₁ a₂ a₃ _ _ _ _) fun ⟨_, _⟩ => ?_
  refine seq m K c (part7 m K c a₀ a₁ a₂ a₃ _ _ _ _ _) fun ⟨_, _⟩ => ?_
  refine seq m K c (part8 m K c a₀ a₁ a₂ a₃ _ _ _ _) fun _ => ?_
  refine seq m K c (part9 m K c a₀ a₁ a₂ a₃ _ _ _) fun ⟨_, _, _⟩ => ?_
  refine seq m K c (part10 m K c a₀ a₁ a₂ a₃ _ _ _ _ _ _) fun ⟨_, _, _⟩ => ?_
  refine seq m K c (part11 m K c a₀ a₁ a₂ a₃ _ _ _ _) fun _ => ?_
  refine seq m K c (part12 m K c a₀ a₁ a₂ a₃ _ _ _ _ _) fun _ => ?_
  refine seq m K c (part13 m K c a₀ a₁ a₂ a₃ _ _ _ _) fun _ => ?_
  refine seq m K c (part14 m K c a₀ a₁ a₂ a₃ _ _ _ _) fun _ => ?_
  refine seq m K c (part15 m K c a₀ a₁ a₂ a₃ _ _ _ _) fun _ => ?_
  refine seq m K c (part16 m K c a₀ a₁ a₂ a₃ _ _ _ _) fun ⟨_, _⟩ => ?_
  refine seq m K c (part17 m K c a₀ a₁ a₂ a₃ _ _ _ _ _) fun _ => ?_
  refine seq m K c (part18 m K c a₀ a₁ a₂ a₃ _ _ _ _ _) fun ⟨_, _, _, _⟩ => ?_
  refine seq m K c (part19 m K c a₀ a₁ a₂ a₃ _ _ _ _ _ _ _) fun ⟨_, _⟩ => ?_
  refine seq m K c (part20 m K c a₀ a₁ a₂ a₃ _ _ _ _ _ _) fun ⟨_, _, _⟩ => ?_
  refine seq m K c (part21 m K c a₀ a₁ a₂ a₃ _ _ _ _ _ _) fun ⟨_, _, _⟩ => ?_
  refine seq m K c (part22 m K c a₀ a₁ a₂ a₃ _ _ _ _ _ _) fun _ => ?_
  refine seq m K c (part23 m K c a₀ a₁ a₂ a₃ _ _ _) fun ⟨_, _, _⟩ => ?_
  refine seq m K c (part24 m K c a₀ a₁ a₂ a₃ _ _ _ _ _ _) fun _ => ?_
  refine seq m K c (part25 m K c a₀ a₁ a₂ a₃ _ _ _ _) fun _ => ?_
  refine seq m K c (part26 m K c a₀ a₁ a₂ a₃ _ _ _ _) fun _ => ?_
  refine seq m K c (part27 m K c a₀ a₁ a₂ a₃ _ _ _) fun _ => ?_
  refine seq m K c (part28 m K c a₀ a₁ a₂ a₃) fun _ => ?_
  refine seq m K c (part29 m K c a₀ a₁ a₂ a₃) fun _ => ?_
  refine seq m K c (part30 m K c a₀ a₁ a₂ a₃) fun _ => ?_
  refine seq m K c (part31 m K c a₀ a₁ a₂ a₃) fun _ => ?_
  unfold Runs
  simp only [Prog.lift, Prog.bind_op, Prog.bind_ret, Prog.pure_eq_ret]
  refine step_back m K c 69 (2, 6) rfl _ (by decide +kernel) rfl ?_
  refine step_done m K c 70 rfl _ (by decide +kernel) rfl ?_
  exact stop m K c _ _

end Cert.Body
-- ==== Proof.Ends.lean ====
/-
# Entry and exit

What the launch hands a device is cut into the parts the script starts from; what the script ends with is put together
again: the whole result holding the gathered array, the whole block of `x` as it was, and every semaphore at zero.
-/
module

public import proofs.«01_k».proof.Proof.Start

@[expose] public section

noncomputable section

namespace Cert.Ends

open Cert.KernelIdeal Cert.KernelIdeal.Gen Cert.Cube Cert.Geom Cert.Views Cert.Sched Cert.State Cert.Steps Cert.Start

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × SemLoc sig → ℕ)
variable (c : Dev nD)

/-! ## A device's semaphores, listed -/

/-- The barrier's semaphore and the transfers'. -/
def semE : Unit ⊕ Kd ≃ SemLoc sig where
  toFun | .inl _ => .reg barS | .inr k => .dma (semOf k)
  invFun | .reg _ => .inl () | .dma s => .inr (kindOf s)
  left_inv | .inl _ => rfl | .inr k => congrArg Sum.inr (kind_sem k)
  right_inv
    | .reg s => congrArg SemLoc.reg (show barS = s from by revert s; decide)
    | .dma s => congrArg SemLoc.dma (sem_kind s)

theorem by_sem (Φ : SemLoc sig → sProp 𝕄) :
    bigSep Finset.univ Φ = iprop(Φ (.reg barS) ∗ bigSep Finset.univ fun k : Kd => Φ (.dma (semOf k))) := by
  rw [bigSep_univ_equiv semE Φ, bigSep_univ_sum, bigSep_univ_of_subsingleton ()]; rfl

theorem by_kind (Φ : Kd → sProp 𝕄) :
    bigSep Finset.univ Φ = iprop(((bigSep Finset.univ fun i : Fin 3 => Φ (.inl (.inl i))) ∗ Φ (.inl (.inr ())))
      ∗ (bigSep Finset.univ fun p : P => Φ (.inr (.inl p))) ∗ bigSep Finset.univ fun p : P => Φ (.inr (.inr p))) := by
  rw [bigSep_univ_sum, bigSep_univ_sum, bigSep_univ_sum, bigSep_univ_of_subsingleton ()]; rfl

/-! ## What a device holds outside the script -/

/-- The duties a device pays. -/
def payToks : sProp 𝕄 :=
  iprop((bigSep Finset.univ fun d : Fin 3 => dutyTok ER (barCell (nbr d c)) 0 d)
    ∗ (bigSep Finset.univ fun i : Fin 3 => dutyTok ER (loadCell c i) 0 0) ∗ dutyTok ER (copyCell c) 0 0
    ∗ (bigSep Finset.univ fun p : P => dutyTok ER (sendCell c p) 0 0)
    ∗ bigSep Finset.univ fun p : P => dutyTok ER (recvCell (tgt p c) p) 0 0)
/-- Its positions on its own cells, and those. -/
def linear : sProp 𝕄 :=
  iprop((atPos ER (barCell c) 0 ∅ 0 ∗ bigSep Finset.univ fun k : Kd => atPos ER (dmaCell c k) 0 ∅ 0) ∗ payToks (F := F) c)

/-- The credit of its own waits on cells other devices pay. -/
def waits₀ : sProp 𝕄 :=
  iprop(cred (tallyAt (barCell c) () 3) ∗ bigSep Finset.univ fun p : P => cred (tallyAt (recvCell c p) () (nOut p.1)))

/-- A whole buffer. -/
abbrev whole (b : Ref sig .tc) (f : Buf (Elt F) ((c : Thread nD τ).loc b)) : sProp 𝕄 := iprop(((c : Thread nD τ).loc b) ↦{fullShare} f)

/-- What a device starts from. -/
def start : sProp 𝕄 :=
  iprop((∃ K, records m K ∗ linear (F := F) c) ∗ waits₀ (F := F) c ∗ levAts L lv ∗ whole c main_arg0 (X m c) ∗ ∃ f, whole (F := F) c main_v1 f)
/-- With its scratch buffers. -/
def Φ₀ : sProp 𝕄 := iprop(start m c ∗ (∃ f, whole (F := F) c cc0_scratch0 f) ∗ ∃ f, whole (F := F) c cc0_scratch1 f)
/-- What it ends with. -/
def Φ₁ : sProp 𝕄 :=
  iprop((whole c main_arg0 (X m c) ∗ whole c main_v1 (gathB m c)) ∗ semVal (barCell c) 0 ∗ (bigSep Finset.univ fun k : Kd => semVal (dmaCell c k) 0)
    ∗ (∃ f, whole (F := F) c cc0_scratch0 f) ∗ ∃ f, whole (F := F) c cc0_scratch1 f)

/-- What it owes at the start. -/
def O₀ (c : Dev nD) : CellTallies nD τ sig Unit := due c Finset.univ + barDue c Finset.univ

/-! ## Buffers cut and joined -/

theorem x_cut (f) : whole c main_arg0 f = bigSep Finset.univ fun i : Fin 3 => xAt (F := F) c (chunkRect i).set fullShare f := by
  unfold xAt whole
  rw [← pointsTo_biUnion (ℓ := (c : Thread nD τ).loc main_arg0) Finset.univ (fun i : Fin 3 => (chunkRect i).set) (fun i _ i' _ h => chunk_disjoint i i' h), chunk_cover]
theorem v_cut (f) : whole c cc0_scratch0 f = bigSep Finset.univ fun i : Fin 3 => vAt (F := F) c (chunkRect i).set fullShare f := by
  unfold vAt whole
  rw [← pointsTo_biUnion (ℓ := (c : Thread nD τ).loc cc0_scratch0) Finset.univ (fun i : Fin 3 => (chunkRect i).set) (fun i _ i' _ h => chunk_disjoint i i' h), chunk_cover]
theorem s_cut (f) : whole c cc0_scratch1 f = bigSep Finset.univ fun i : Fin 3 => sAt (F := F) c (chunkRect i).set fullShare f := by
  unfold sAt whole
  rw [← pointsTo_biUnion (ℓ := (c : Thread nD τ).loc cc0_scratch1) Finset.univ (fun i : Fin 3 => (chunkRect i).set) (fun i _ i' _ h => chunk_disjoint i i' h), chunk_cover]
theorem o_cut (f) : whole c main_v1 f = iprop(oAt (F := F) c (ownRect c).set fullShare f ∗ bigSep Finset.univ fun p : P => oAt (F := F) c (landSet c p) fullShare f) := by
  unfold oAt whole
  rw [← pointsTo_biUnion (ℓ := (c : Thread nD τ).loc main_v1) Finset.univ (landSet c) (fun p _ p' _ h => land_disjoint c p p' h), ← own_land_cover c]
  exact BI.Entails.antisymm (pointsTo_union (own_land_disjoint c)).1 (pointsTo_union (own_land_disjoint c)).2

/-- A buffer's parts each at some contents. -/
theorem some_each {ι α : Type} [Fintype ι] [DecidableEq ι] (Ψ : ι → α → sProp 𝕄) (f : α) :
    (bigSep Finset.univ fun i => Ψ i f) ⊢ bigSep Finset.univ fun i => iprop(∃ f, Ψ i f) :=
  ent (bigSep_mono fun i _ => ent' (by iintro H; iexists f; iexact H))

/-! ## Sources and arrivals put together -/

theorem fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- A held arrival: of a piece that is not forwarded. -/
abbrev leafR (p : P) : sProp 𝕄 := if 3 ≤ p.2.val then landR m c p else iprop(emp)

/-- A chunk's sources and held arrivals are the staged chunk and all the chunk's arrivals. -/
theorem chunk_join (i : Fin 3) :
    iprop((bigSep Finset.univ fun t : Fin 7 => srcR m c (i, t)) ∗ (bigSep Finset.univ fun t : Fin 7 => leafR m c (i, t)) ∗ locR m c i)
      ⊢ iprop(sAt c (chunkRect i).set fullShare (stgB m c) ∗ bigSep Finset.univ fun t : Fin 7 => landR m c (i, t)) := by
  have e0 := land_split m c (i, 0)
  have e1 := land_split m c (i, 1)
  have e2 := land_split m c (i, 2)
  rw [kids_zero, bigSep_insert (by simp), bigSep_singleton] at e0
  rw [kids_one, bigSep_singleton] at e1
  rw [kids_two, bigSep_singleton] at e2
  have e3 : leafR m c (i, 3) = landR m c (i, 3) := if_pos (show 3 ≤ (3 : Fin 7).val by decide)
  have e4 : leafR m c (i, 4) = landR m c (i, 4) := if_pos (show 3 ≤ (4 : Fin 7).val by decide)
  have e5 : leafR m c (i, 5) = landR m c (i, 5) := if_pos (show 3 ≤ (5 : Fin 7).val by decide)
  have e6 : leafR m c (i, 6) = landR m c (i, 6) := if_pos (show 3 ≤ (6 : Fin 7).val by decide)
  have es := stage_split m c i
  unfold ownOf at es
  rw [bigSep_insert (by simp), bigSep_insert (by simp), bigSep_singleton] at es
  replace e0 : landR m c (i, 0) = iprop((srcR m c (i, 2) ∗ srcR m c (i, 4)) ∗ leafR m c (i, 0)) := e0
  replace es : sAt c (chunkRect i).set fullShare (stgB m c) = iprop((srcR m c (i, 0) ∗ srcR m c (i, 1) ∗ srcR m c (i, 3)) ∗ locR m c i) := es
  rw [fin7, fin7, fin7, e3, e4, e5, e6]
  iintro ⟨⟨H0, H1, H2, H3, H4, H5, H6⟩, ⟨L0, L1, L2, L3, L4, L5, L6⟩, Hl⟩
  isplitl [H0 H1 H3 Hl]
  · iapply (eqv es.symm)
    isplitr [Hl]
    · isplitl [H0]; · iexact H0
      isplitl [H1]; · iexact H1
      iexact H3
    · iexact Hl
  isplitl [H2 H4 L0]
  · iapply (eqv e0.symm)
    isplitr [L0]
    · isplitl [H2]; · iexact H2
      iexact H4
    · iexact L0
  isplitl [H5 L1]
  · iapply (eqv e1.symm)
    isplitl [H5]; · iexact H5
    iexact L1
  isplitl [H6 L2]
  · iapply (eqv e2.symm)
    isplitl [H6]; · iexact H6
    iexact L2
  isplitl [L3]; · iexact L3
  isplitl [L4]; · iexact L4
  isplitl [L5]; · iexact L5
  iexact L6

/-- All the chunks'. -/
theorem all_join :
    iprop(bigSep Finset.univ (srcR m c) ∗ bigSep Finset.univ (leafR m c) ∗ bigSep Finset.univ (locR m c))
      ⊢ iprop(whole c cc0_scratch1 (stgB m c) ∗ bigSep Finset.univ (landR m c)) := by
  rw [bigSep_univ_prod (srcR m c), bigSep_univ_prod (leafR m c), bigSep_univ_prod (landR m c), s_cut, ← bigSep_sep', ← bigSep_sep', ← bigSep_sep']
  exact ent (bigSep_mono fun i _ => ent' (chunk_join m c i))

/-! ## Entry -/

theorem entry : iprop(Φ₀ m c ∗ ∃ W, owes (c : Thread nD τ) (O₀ c) W) ⊢ iprop(∃ K, Init m K c) := by
  unfold Φ₀ start linear payToks waits₀ O₀
  iintro ⟨⟨⟨⟨%K, #HR, ⟨HaB, Hat⟩, HtB, HtL, HtC, HtS, HtV⟩, ⟨HcB, HcV⟩, #Hlev, Hx, ⟨%fo, Ho⟩⟩, ⟨%fv, Hv⟩, ⟨%fs, Hs⟩⟩, HO⟩
  ihave Hat := (eqv (by_kind _)) $$ Hat
  icases Hat with ⟨⟨HaL, HaC⟩, HaS, HaV⟩
  ihave Hx := (eqv (x_cut c _)) $$ Hx
  ihave Hv := (eqv (v_cut c _)) $$ Hv
  ihave Hs := (eqv (s_cut c _)) $$ Hs
  ihave Ho := (eqv (o_cut c _)) $$ Ho
  icases Ho with ⟨Hown, Hspot⟩
  ihave Hv := (some_each (fun (i : Fin 3) f => vAt (F := F) c (chunkRect i).set fullShare f) fv) $$ Hv
  ihave Hs := (some_each (fun (i : Fin 3) f => sAt (F := F) c (chunkRect i).set fullShare f) fs) $$ Hs
  ihave Hspot := (some_each (fun (p : P) f => oAt (F := F) c (landSet c p) fullShare f) fo) $$ Hspot
  iexists K
  unfold Init initR
  isplitr; · iexact HR
  isplitr; · iexact Hlev
  isplitl [HO]; · iexact HO
  isplitl [HtB]; · iexact HtB
  isplitl [HaB]; · iexact HaB
  isplitl [HcB]; · iexact HcB
  isplitl [Hspot]; · iexact Hspot
  isplitl [HtS HtV HaS]
  · unfold payR
    simp only [bigSep_sep']
    isplitl [HtS]; · iexact HtS
    isplitl [HtV]; · iexact HtV
    iexact HaS
  isplitl [HcV HaV]
  · unfold waitR
    simp only [bigSep_sep']
    isplitl [HcV]; · iexact HcV
    iexact HaV
  isplitl [Hx Hv Hs HtL HaL]
  · unfold rawR
    simp only [bigSep_sep']
    isplitl [Hx]; · iexact Hx
    isplitl [Hv]; · iexact Hv
    isplitl [Hs]; · iexact Hs
    isplitl [HtL]; · iexact HtL
    iexact HaL
  · rw [cpR_zero]
    isplitl [Hown]; · iexists fo; iexact Hown
    isplitl [HtC]; · iexact HtC
    iexact HaC

/-! ## Exit -/

theorem due_none : due c ∅ = 0 := Finset.sum_empty

theorem exit : iprop(StAt m K c 71 ∗ semVal (barCell c) 0) ⊢ iprop(Φ₁ m c ∗ ∃ W, owes (c : Thread nD τ) 0 W) := by
  unfold StAt St
  rw [confAt_end]
  dsimp only
  rw [due_none, cpR_two]
  unfold gotR homeR stgR loadR
  simp only [bigSep_sep']
  iintro ⟨⟨-, -, HO, -, -, Hhome, Hsrc, -, ⟨Hgz, Hleaf⟩, -, -, ⟨HzL, Hx, Hv⟩, Hloc, HzC, Hown⟩, HzB⟩
  ihave H := (all_join m c) $$ [Hsrc Hleaf Hloc]
  · isplitl [Hsrc]; · iexact Hsrc
    isplitl [Hleaf]; · iexact Hleaf
    iexact Hloc
  icases H with ⟨Hs, Hland⟩
  unfold Φ₁
  isplitr [HO]
  · isplitl [Hx Hland Hown]
    · isplitl [Hx]
      · iapply (eqv (x_cut c _).symm); iexact Hx
      · iapply (eqv (o_cut c _).symm)
        isplitl [Hown]; · iexact Hown
        iexact Hland
    isplitl [HzB]; · iexact HzB
    isplitl [HzL HzC Hhome Hgz]
    · iapply (eqv (by_kind _).symm)
      isplitl [HzL HzC]
      · isplitl [HzL]; · iexact HzL
        iexact HzC
      isplitl [Hhome]; · iexact Hhome
      iexact Hgz
    isplitl [Hv]
    · iexists (X m c); iapply (eqv (v_cut c _).symm); iexact Hv
    · iexists _; iexact Hs
  · iexact HO

end Cert.Ends
-- ==== Proof.Launch.lean ====
/-
# The launch

The launch deals every device its cells and duties: each duty goes to the device that pays it, each device keeps the
positions on its own cells, and the invariants are known to all. From there `Body.body_run` runs on each device, and
the final memories are read off.
-/
module

public import proofs.«01_k».proof.Proof.Body
public import proofs.«01_k».proof.Proof.Ends
public import Idealize.ShloMosaic.Lib.Pipeline.CollectiveSegs

@[expose] public section

noncomputable section

namespace Cert.Launch

open Cert.KernelIdeal Cert.KernelIdeal.Gen Cert.Cube Cert.Geom Cert.Views Cert.Sched Cert.State Cert.Steps Cert.Start Cert.Ends

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's semaphores and the run's data -/

/-- The kernel's own semaphores. -/
abbrev osem : Kd → SemLoc sig := fun k => .dma (semOf k)

theorem semOf_injective : Function.Injective semOf := kdE.symm.injective

theorem ownSemFacts : Pipeline.OwnSemFacts cfg0.spec osem where
  isScoped := by decide +kernel
  inj k k' h := semOf_injective (SemLoc.dma.inj h)
  disj k w := w.elim0

/-- The run's data: no window; before the body a device holds `Φ₀` and owes `O₀`, after it `Φ₁` and nothing. -/
def dats (_ : Fin 1) (c : Dev nD) : Dat τ (Elt F) Unit ℕ UU ℕ cfg0 c where
  A w := (Sched.s₀ m ρ).mem ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

/-! ## The body's obligation -/

/-- One device's whole run: from its start to its end. -/
theorem device (c : Dev nD) (a₀ a₁ a₂ a₃) :
    iprop(Φ₀ m c ∗ ∃ W, owes (c : Thread nD τ) (O₀ c) W)
      ⊢ Parts.Runs c (cc0_body (F := F) (.whole main_arg0) a₀ (.whole main_v1) a₁ (.whole cc0_scratch0) a₂ (.whole cc0_scratch1) a₃ cc0_scratch2 cc0_scratch3 cc0_scratch4 cc0_scratch5)
        (fun _ => iprop(Φ₁ m c ∗ ∃ W, owes (c : Thread nD τ) 0 W)) := by
  iintro H
  ihave H := (entry m c) $$ H
  icases H with ⟨%K, H⟩
  iapply ((Body.body_run m K c a₀ a₁ a₂ a₃).trans (wp_mono _ _ _ fun _ => exit m K c))
  iexact H

set_option maxRecDepth 20000 in
theorem body_obligation (c : Dev nD) : BodyObligation (dats (F := F) m ρ 0 c) (defs₀ (F := F)) 𝒱₀ () Set.univ := fun t => by
  rw [fin_N0 t]
  show iprop(Φ₀ m c ∗ (dats m ρ 0 c).owesAt () t0_0.castSucc ∗ bigSep (Finset.univ : Finset (Fin 0)) _)
    ⊢ wp frame (wpE (defs₀ (F := F)) 𝒱₀ (c : Thread nD τ) none) Set.univ
        (cc0_body (Memref.whole main_arg0) (Memref.isWhole_whole _) (Memref.whole main_v1) (Memref.isWhole_whole _) (Memref.whole cc0_scratch0) (Memref.isWhole_whole _)
          (Memref.whole cc0_scratch1) (Memref.isWhole_whole _) cc0_scratch2 cc0_scratch3 cc0_scratch4 cc0_scratch5)
        (fun _ => iprop(Φ₁ m c ∗ (dats m ρ 0 c).owesAt () t0_0.succ ∗ bigSep (Finset.univ : Finset (Fin 0)) _))
  unfold Dat.owesAt Pipeline.owesWithin
  rw [show (dats m ρ 0 c).owed t0_0.castSucc = O₀ c from rfl, show (dats m ρ 0 c).owed t0_0.succ = 0 from rfl]
  iintro ⟨HΦ, ⟨%W, %hW, HO⟩, -⟩
  iapply ((device m c (Memref.isWhole_whole _) (Memref.isWhole_whole _) (Memref.isWhole_whole _) (Memref.isWhole_whole _)).trans (wp_mono _ _ _ fun _ => by
    iintro ⟨HΦ, ⟨%W', HO⟩⟩
    isplitl [HΦ]; · iexact HΦ
    isplitl [HO]
    · iexists W'
      isplitr; · ipureintro; exact fun _ _ => Or.inl trivial
      iexact HO
    · rw [Finset.univ_eq_empty, bigSep_empty]; iempintro))
  isplitl [HΦ]; · iexact HΦ
  iexists W; iexact HO

/-! ## Cells and duties -/

theorem kcell_injective : Function.Injective (kcell : Dev nD × SemLoc sig → GSem nD τ sig) := by
  rintro ⟨c, k⟩ ⟨c', k'⟩ h
  have h1 : c = c' := congrArg (fun g : GSem nD τ sig => g.1.1) h
  have h2 : k = k' := congrArg Prod.snd h
  rw [h1, h2]

def cells₀ : Finset (GSem nD τ sig) := Finset.univ.map ⟨kcell, kcell_injective⟩

/-- A device's duties: the barrier cell's three, and each transfer cell's one. -/
def tokOf (cj : Dev nD × (Fin 3 ⊕ Kd)) : GSem nD τ sig × ℕ × Fin 3 :=
  match cj.2 with | .inl d => (barCell cj.1, 0, d) | .inr k => (dmaCell cj.1 k, 0, 0)

theorem tokOf_injective : Function.Injective tokOf := by
  rintro ⟨c, j⟩ ⟨c', j'⟩ h
  have h1 : c = c' := by
    have := congrArg (fun x : GSem nD τ sig × ℕ × Fin 3 => x.1.1.1) h
    rcases j with _ | _ <;> rcases j' with _ | _ <;> exact this
  have h2 : (tokOf (c, j)).1.2 = (tokOf (c', j')).1.2 := congrArg (fun x : GSem nD τ sig × ℕ × Fin 3 => x.1.2) h
  have h3 : (tokOf (c, j)).2.2 = (tokOf (c', j')).2.2 := congrArg (fun x : GSem nD τ sig × ℕ × Fin 3 => x.2.2) h
  rcases j with d | k <;> rcases j' with d' | k'
  · rw [h1, show d = d' from h3]
  · exact absurd h2 (fun h => by cases h)
  · exact absurd h2 (fun h => by cases h)
  · rw [h1, semOf_injective (SemLoc.dma.inj h2)]

def toks₀ : Finset (GSem nD τ sig × ℕ × Fin 3) := Finset.univ.map ⟨tokOf, tokOf_injective⟩

def u₀ : UU :=
  (initOf (Pipeline.cells cfgs cellOf_inj) (Pipeline.launchToks cfgs cellOf_inj), initOf cells₀ toks₀)

/-- The duties of device `c`'s own cells. -/
def toks (c : Dev nD) : sProp 𝕄 :=
  iprop((bigSep Finset.univ fun d : Fin 3 => dutyTok ER (barCell c) 0 d) ∗ bigSep Finset.univ fun k : Kd => dutyTok ER (dmaCell c k) 0 0)

/-- What each device has of the launch's element. -/
def G (c : Dev nD) : sProp 𝕄 :=
  iprop((bigSep Finset.univ fun k : SemLoc sig => roundState ER (rd m) (kcell (c, k)) 0)
    ∗ (bigSep Finset.univ fun k : SemLoc sig => iprop(atPos ER (kcell (c, k)) 0 ∅ 0 ∗ reached ER (kcell (c, k)) 0)) ∗ toks (F := F) c)

/-- What it has once the cells are shared. -/
def G' (c : Dev nD) : sProp 𝕄 := iprop(∃ K, records m K ∗ linear (F := F) c)

theorem fund : BI.own (ER (initOf cells₀ toks₀)) ⊢ (|==> bigSep Finset.univ (G m) : sProp 𝕄) := by
  have hX (Φ : GSem nD τ sig → sProp 𝕄) : bigSep cells₀ Φ = bigSep Finset.univ fun c : Dev nD => bigSep Finset.univ fun k : SemLoc sig => Φ (kcell (c, k)) := by
    unfold cells₀; rw [bigSep_map, bigSep_univ_prod]; rfl
  have hT : bigSep toks₀ (fun x => (dutyTok ER x.1 x.2.1 x.2.2 : sProp 𝕄)) = bigSep Finset.univ fun c : Dev nD => toks c := by
    unfold toks₀; rw [bigSep_map, bigSep_univ_prod]
    exact bigSep_congr fun c _ => by unfold toks; rw [bigSep_univ_sum]; rfl
  iintro HX
  imod (Rounds.fund ER (rd m) cells₀ toks₀) $$ HX with ⟨Hst, Hr, Hat, Htok⟩
  imodintro
  ihave Hst := (eqv (hX fun g => roundState ER (rd m) g 0)) $$ Hst
  ihave Hat := (eqv (hX fun g => atPos ER g 0 ∅ 0)) $$ Hat
  ihave Hr := (eqv (hX fun g => reached ER g 0)) $$ Hr
  ihave Htok := (eqv hT) $$ Htok
  unfold G; simp only [bigSep_sep']
  isplitl [Hst]; · iexact Hst
  isplitl [Hat Hr]
  · isplitl [Hat] <;> iassumption
  iexact Htok

/-- The launch's one unscoped semaphore is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : SemLoc sig => semVal (kcell (c, k)) 0 : sProp 𝕄) := by
  rw [unscopedSems0_eq, by_sem]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems_eq (F := F) c) $$ [Hos Hus]
  · isplitl [Hos] <;> iassumption
  imod (show iprop((bigSep Finset.univ fun k : SemLoc sig => semVal (kcell (c, k)) 0) ∗ bigSep Finset.univ fun k : SemLoc sig => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Resources indexed by devices and by `ι`, dealt out by one permutation of the devices per index. -/
theorem deal {ι : Type} [Fintype ι] [DecidableEq ι] (e : ι → Dev nD ≃ Dev nD) (Φ : Dev nD → ι → sProp 𝕄) :
    (bigSep Finset.univ fun c => bigSep Finset.univ (Φ c)) = bigSep Finset.univ fun c => bigSep Finset.univ fun i => Φ (e i c) i := by
  rw [bigSep_univ_comm, bigSep_univ_comm (fun c i => Φ (e i c) i)]
  exact bigSep_congr fun i _ => bigSep_univ_equiv (e i) fun c => Φ c i

/-- Every duty to the device that pays it. -/
theorem toks_around : (bigSep Finset.univ fun c : Dev nD => (toks c : sProp 𝕄)) ⊢ bigSep Finset.univ fun c : Dev nD => payToks c := by
  have hk (c : Dev nD) := by_kind (F := F) fun k => dutyTok ER (dmaCell c k) 0 0
  unfold toks payToks
  simp only [hk, bigSep_sep']
  rw [deal nbrE (fun c d => (dutyTok ER (barCell c) 0 d : sProp 𝕄)), deal tgtE (fun c p => (dutyTok ER (recvCell c p) 0 0 : sProp 𝕄))]
  iintro ⟨HB, ⟨HL, HC⟩, HS, HV⟩
  isplitl [HB]; · iexact HB
  isplitl [HL]; · iexact HL
  isplitl [HC]; · iexact HC
  isplitl [HS]; · iexact HS
  iexact HV

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × SemLoc sig => iprop(∃ κ : ℕ, cellInv ER (rd m) κ (kcell ck))),
    bigSep_congr (s := Finset.univ) (fun (c : Dev nD) _ => bigSep_sep' Finset.univ (fun k : SemLoc sig => (atPos ER (kcell (c, k)) 0 ∅ 0 : sProp 𝕄)) (fun k => reached ER (kcell (c, k)) 0)),
    bigSep_sep', ← bigSep_univ_prod (fun ck : Dev nD × SemLoc sig => (reached ER (kcell ck) 0 : sProp 𝕄))]
  iintro ⟨HI, ⟨Hat, #HR⟩, Htok⟩
  ihave HK := (BI.bigSep_exists_pi Finset.univ (fun (ck : Dev nD × SemLoc sig) (κ : ℕ) => (cellInv ER (rd m) κ (kcell ck) : sProp 𝕄))) $$ HI
  icases HK with ⟨%K, #HI⟩
  ihave Htk := (toks_around (F := F)) $$ Htok
  iapply (BI.bigSep_with_persistent (R := records m K) (Φ := linear) fun c _ => show iprop(records m K ∗ linear c) ⊢ G' m c from by
    unfold G'; iintro ⟨HR, HL⟩; iexists K; isplitl [HR] <;> iassumption)
  isplitr
  · unfold records; isplitl; · iexact HI
    iexact HR
  · unfold linear
    rw [bigSep_sep']
    isplitl [Hat]
    · iapply (eqv (bigSep_congr fun c _ => by_sem (F := F) fun k => atPos ER (kcell (c, k)) 0 ∅ 0)); iexact Hat
    iexact Htk

/-- The cells of every device shared at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What is owed to a device's cells. -/
def T₀ (c : Dev nD) : CellTallies nD τ sig Unit := tallyAt (barCell c) () 3 + ∑ p : P, tallyAt (recvCell c p) () (nOut p.1)

/-- All that is owed, sorted by who is owed. -/
theorem owed_sum : (∑ d : Dev nD, O₀ d) = ∑ d, T₀ d := by
  have h3 (c : Dev nD) : (tallyAt (barCell c) () 3 : CellTallies nD τ sig Unit) = ∑ d : Fin 3, tallyAt (barCell c) () 1 := by
    rw [Fin.sum_univ_three, tallyAt_add, tallyAt_add]
  unfold O₀ T₀ due barDue
  rw [Finset.sum_add_distrib, Finset.sum_add_distrib, add_comm]
  simp only [h3]
  congr 1
  · rw [Finset.sum_comm, Finset.sum_comm (f := fun (c : Dev nD) (_ : Fin 3) => (tallyAt (barCell c) () 1 : CellTallies nD τ sig Unit))]
    exact Finset.sum_congr rfl fun d _ => Equiv.sum_comp (nbrE d) fun c => (tallyAt (barCell c) () 1 : CellTallies nD τ sig Unit)
  · rw [Finset.sum_comm, Finset.sum_comm (f := fun (c : Dev nD) (p : P) => (tallyAt (recvCell c p) () (nOut p.1) : CellTallies nD τ sig Unit))]
    exact Finset.sum_congr rfl fun p _ => Equiv.sum_comp (tgtE p) fun c => (tallyAt (recvCell c p) () (nOut p.1) : CellTallies nD τ sig Unit)

theorem owed_here (d : Dev nD) (g : GSem nD τ sig) (h : T₀ d g ≠ 0) : g.1 = (d.tc : Thread nD τ) := by
  by_contra hn
  refine h ?_
  unfold T₀
  rw [Pi.add_apply, Finset.sum_apply, tallyAt_ne_cell fun e => hn (by rw [e]), zero_add]
  exact Finset.sum_eq_zero fun p _ => tallyAt_ne_cell (fun e => hn (by rw [e])) _ _

theorem creds (c : Dev nD) : (Pipeline.launchCred O₀ c : sProp 𝕄) ⊢ waits₀ (F := F) c := by
  rw [Pipeline.launchCred_of_sum O₀ T₀ owed_sum owed_here c]
  unfold T₀ waits₀
  refine (cred_add _ _).1.trans ?_
  rw [Pipeline.cred_finsetSum]

/-! ## The launch's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds (F := F) c) $$ Hcr
  imodintro
  unfold start G'
  isplitl
  · isplitl [HG]; · iexact HG
    isplitl [Hc]; · iexact Hc
    isplitl [Hlev]; · iexact Hlev
    isplitl [Hx]; · iexact Hx
    iexists _; iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

/-- What is left outside the kernel's own buffers and semaphores. -/
def Y (c : Dev nD) : sProp 𝕄 := iprop((whole c main_arg0 (X m c) ∗ whole c main_v1 (gathB m c)) ∗ unscopedSems0 c)

theorem phi1_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = Φ₁ m c from rfl, scopedRest0_eq]
  unfold Φ₁ Y Pipeline.ownSems0
  rw [unscopedSems0_eq]
  iintro ⟨Hb, HzB, HzD, Hr⟩
  isplitl [Hb HzB]
  · isplitl [Hb] <;> iassumption
  isplitl [HzD]; · iexact HzD
  iexact Hr

theorem waits (c : Dev nD) : (levAts L lv : sProp 𝕄) ⊢ Pipeline.cellsWaits cfgs (dats m ρ) () 0 c :=
  Pipeline.cellsWaits_intro cfgs (dats m ρ) () 0 c fun w s t => w.elim0

/-- One buffer's contents in the final memory. -/
theorem read_buf (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  have h := pointsTo_read_all (Ix := Unit) (Name := ℕ) (U := UU) (Lvl := ℕ) (Finset.univ : Finset Unit) (fun _ => ℓ) (fun _ => f) s'
  rw [bigSep_univ_of_subsingleton ()] at h
  refine h.trans ?_
  iintro ⟨%h, HSI⟩
  isplitr; · ipureintro; exact h () (Finset.mem_univ _)
  iexact HSI

/-- What one device's part of the final memory is: the gathered array, the block of `x` it had, and the barrier at zero. -/
def QY (c : Dev nD) (s : MemSt nD τ sig (Elt F)) : Prop :=
  (s.mem ((c : Thread nD τ).loc main_v1) = gathB m c ∧ s.mem ((c : Thread nD τ).loc main_arg0) = X m c)
    ∧ ∀ sm : SemLoc sig, sm.isScoped .tc = false → s.sem ((c.tc : Thread nD τ), sm) = 0

theorem read_all (c : Dev nD) (s' : Phys nD τ sig (Elt F)) : iprop(Y m c ∗ emp ∗ SI s') ⊢ |={Set.univ}=> iprop(⌜QY m c s'.mem⌝ ∗ SI s') := by
  unfold Y QY
  iintro ⟨⟨⟨Hx, Ho⟩, Hu⟩, -, HSI⟩
  ihave H := (read_buf _ _ s') $$ [Hx HSI]
  · isplitl [Hx] <;> iassumption
  icases H with ⟨%hx, HSI⟩
  ihave H := (read_buf _ _ s') $$ [Ho HSI]
  · isplitl [Ho] <;> iassumption
  icases H with ⟨%ho, HSI⟩
  imod (Pipeline.unscopedSems0_read (X := (unscopedSems0 c : sProp 𝕄)) (c := c) fupd_intro s') $$ [Hu HSI] with ⟨%hu, HSI⟩
  · isplitl [Hu] <;> iassumption
  imodintro
  isplitr; · ipureintro; exact ⟨⟨ho, hx⟩, hu⟩
  iexact HSI

/-! ## The run -/

set_option maxRecDepth 8000 in
/-- From any memory with every semaphore at zero, every weakly fair execution of `main` on the eight devices ends, with
    the gathered array in every device's result, its block of `x` unchanged, and every semaphore at zero. -/
theorem run_main : θ_run defs (onTc (τ := τ) (main (F := F))) (Sched.s₀ m ρ) (fun r =>
    (∀ c : Dev nD, r.2.mem ((c : Thread nD τ).loc main_v1) = gathB m c ∧ r.2.mem ((c : Thread nD τ).loc main_arg0) = X m c) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => w.elim0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := Y m) (Z := fun _ => iprop(emp))
    (hX := start_intro m ρ) (hin := phi0_intro m ρ) (hout := phi1_exit m ρ)
    (QY := QY m)
    (hY := read_all m)
    (hQ := fun _ h hs => ⟨fun c => (h c).2.2.1, sem_eq_zero hs fun c => (h c).2.2.2⟩)

end Cert.Launch
-- ==== Proof.Ref.lean ====
/-
# The reference, and the gathered array against it

The reference casts the whole array. Its run ends with that cast; and when every device's argument is its block of the
whole array, what the kernel gathers is the same cast.
-/
module

public import proofs.«01_k».proof.Proof.Geom
public import proofs.«01_k».proof.Proof.Gen.ReferenceIdeal
public import Idealize.ShloMosaic.Lib.StableHlo.Run
public import Idealize.ShloMosaic.Lib.Layout

@[expose] public section

noncomputable section

namespace Cert.Ref

open Idealize.ShloMosaic Idealize.ShloMosaic.TcCoe Idealize.ShloMosaic.StableHlo Idealize.SL.Sem

variable {F : FTy → Type} [FloatOps F]

/-! ## The reference's run -/

section Run

open Cert.ReferenceIdeal Cert.ReferenceIdeal.Gen

/-- The cast of the whole array. -/
def castV (x : S65536x1024.Idx → F .f32) : S65536x1024.Idx → F .bf16 := fun j => FloatOps.truncf .bf16 bitsLt_bf16_f32 (x j)

/-- The reference's one operation. -/
abbrev ops : List (HloOp τ sig (Elt F)) :=
  [unary main_arg0 main_v0 ((truncf .bf16 · bitsLt_bf16_f32) : (⟨S65536x1024, .f32⟩ : BufTy).Contents (Elt F) → (⟨S65536x1024, .bf16⟩ : BufTy).Contents (Elt F))]

theorem main_eq (c : Dev nD) : main (F := F) c = seq ops := rfl

theorem out_eq (V : Valuation τ sig (Elt F)) : after ops V (main_v0 : DevRef τ sig) = castV (V (main_arg0 : DevRef τ sig)) := by
  after_results
  rfl
theorem arg_eq (V : Valuation τ sig (Elt F)) : after ops V (main_arg0 : DevRef τ sig) = V (main_arg0 : DevRef τ sig) := by
  after_results

/-- From any memory with every semaphore at zero the reference ends with the cast of its argument in its result, the
    argument unchanged, and every semaphore (it has none) at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v0) = castV (m ((c.tc : Thread nD τ).loc main_arg0))
        ∧ r.2.mem ((c.tc : Thread nD τ).loc main_arg0) = m ((c.tc : Thread nD τ).loc main_arg0)) ∧ r.2.sem = fun _ => 0 :=
  (θ_run defs _ _).mono (fun r h => ⟨fun c => ⟨(h c main_v0).trans (out_eq _), (h c main_arg0).trans (arg_eq _)⟩, sem_eq_zero_of_no_sems (by decide) r.2⟩)
    (run_seq (by decide) (by decide) defs main (fun _ => ops) main_eq (fun _ => unary_bufs_sub ..) m ρ)

end Run

/-! ## The gathered array -/

section Value

open Cert.Geom

/-- If device `c` has block `c` of the whole array `x`, for every `c`, the gathered array is the cast of `x`. -/
theorem gath_blocks (x : ReferenceIdeal.S65536x1024.Idx → F .f32) (X : Dev KernelIdeal.nD → KernelIdeal.S8192x1024.Idx → F .f32)
    (h : ∀ c, X c = Layout.block ⟨2, ![8192, 1024]⟩ ⟨2, ![65536, 1024]⟩ 0 8 c x) : gath X = castV x := by
  funext j
  unfold gath stgV castV
  rw [h, Layout.block_apply]
  refine congrArg (fun k => FloatOps.truncf .bf16 _ (x k)) (funext fun a => Fin.ext ?_)
  revert a
  rw [Fin.forall_fin_two]
  refine ⟨?_, ?_⟩
  · show (j 0).val / 8192 * 8192 + (j 0).val % 8192 = (j 0).val
    omega
  · have h1 : (j 1).val < 1024 := (j 1).isLt
    show (j 1).val % 1024 = (j 1).val
    omega

end Value

end Cert.Ref
-- ==== Proof.lean ====
/-
# The claims

The kernel's run (`Cert.Launch.run_main`) is proved once, for any float values: both programs have the same text, so each
program's claim is that run at its own instance. The reference's run is `Cert.Ref.run_main`, and `Cert.Ref.gath_blocks` says that the
two results agree.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.Ref
public import Idealize.ShloMosaic.Adequacy
public import Idealize.ShloMosaic.Init

@[expose] public section

noncomputable section

namespace Cert.Proof

open Idealize.ShloMosaic Idealize.SL.Sem

/-- The kernel ends, its argument unchanged, every semaphore at zero. -/
theorem frame_kernel : Cert.quiescent_Kernel := fun m ρ _ =>
  (θ_run Cert.KernelIdeal.defs _ _).mono (fun _ h => ⟨fun c => (h.1 c).2, h.2⟩) (Launch.run_main (F := Bits) m ρ)

/-- So does its ideal reading. -/
theorem frame_ideal : Cert.quiescent_KernelIdeal := fun m ρ _ =>
  (θ_run Cert.KernelIdeal.defs _ _).mono (fun _ h => ⟨fun c => (h.1 c).2, h.2⟩) (Launch.run_main (F := Ideal) m ρ)

/-- So does the reference. -/
theorem frame_reference : Cert.quiescent_ReferenceIdeal := fun m ρ _ =>
  (θ_run Cert.ReferenceIdeal.defs _ _).mono (fun _ h => ⟨fun c => (h.1 c).2, h.2⟩) (Ref.run_main (F := Ideal) m ρ)

/-- From blocks of one array, every device of the kernel ends with the reference's result. -/
theorem value : Cert.algebraic_KernelIdeal_ReferenceIdeal := fun m ρ m' ρ' _ hx => by
  refine ⟨Ref.castV (F := Ideal) (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono (fun _ h c => ⟨(h.1 c).1.trans (Ref.gath_blocks _ _ hx), (h.1 c).2⟩) (Launch.run_main (F := Ideal) m ρ)
  · exact (θ_run Cert.ReferenceIdeal.defs _ _).mono (fun _ h => h.1 0) (Ref.run_main (F := Ideal) m' ρ')

theorem claim : Cert.Claim := ⟨Cert.Kernel.Gen.facts, Cert.KernelIdeal.Gen.facts, Cert.ReferenceIdeal.Gen.facts,
  frame_kernel, frame_ideal, frame_reference, trivial, value⟩

end Cert.Proof

end
